-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x3 : Shape := ⟨3, ![1, 2048, 3]⟩
abbrev S1x2048x3x3 : Shape := ⟨4, ![1, 2048, 3, 3]⟩
abbrev S1x2048x16 : Shape := ⟨3, ![1, 2048, 16]⟩
abbrev S8x16 : Shape := ⟨2, ![8, 16]⟩
abbrev S8 : Shape := ⟨1, ![8]⟩
abbrev S8x8 : Shape := ⟨2, ![8, 8]⟩
abbrev S8x3 : Shape := ⟨2, ![8, 3]⟩
abbrev S16x8 : Shape := ⟨2, ![16, 8]⟩
abbrev S16 : Shape := ⟨1, ![16]⟩
abbrev S16x16 : Shape := ⟨2, ![16, 16]⟩
abbrev S2048x16 : Shape := ⟨2, ![2048, 16]⟩
abbrev S2048x3 : Shape := ⟨2, ![2048, 3]⟩
abbrev S2048x3x3 : Shape := ⟨3, ![2048, 3, 3]⟩
abbrev S2048x9 : Shape := ⟨2, ![2048, 9]⟩
abbrev S3x3 : Shape := ⟨2, ![3, 3]⟩
abbrev S_ : Shape := ⟨0, ![]⟩
abbrev S3x9 : Shape := ⟨2, ![3, 9]⟩
abbrev S8x1 : Shape := ⟨2, ![8, 1]⟩
abbrev S8x4 : Shape := ⟨2, ![8, 4]⟩
abbrev S8x1x4x1 : Shape := ⟨4, ![8, 1, 4, 1]⟩
abbrev S1x16x1x16 : Shape := ⟨4, ![1, 16, 1, 16]⟩
abbrev S8x16x4x16 : Shape := ⟨4, ![8, 16, 4, 16]⟩
abbrev S128x64 : Shape := ⟨2, ![128, 64]⟩
abbrev S8x9 : Shape := ⟨2, ![8, 9]⟩
abbrev S8x1x9x1 : Shape := ⟨4, ![8, 1, 9, 1]⟩
abbrev S8x16x9x16 : Shape := ⟨4, ![8, 16, 9, 16]⟩
abbrev S128x144 : Shape := ⟨2, ![128, 144]⟩
abbrev S16x1 : Shape := ⟨2, ![16, 1]⟩
abbrev S16x3 : Shape := ⟨2, ![16, 3]⟩
abbrev S16x9 : Shape := ⟨2, ![16, 9]⟩
abbrev S224x2048 : Shape := ⟨2, ![224, 2048]⟩
abbrev S2048x8 : Shape := ⟨2, ![2048, 8]⟩
abbrev S8x2048 : Shape := ⟨2, ![8, 2048]⟩
abbrev S2x2048 : Shape := ⟨2, ![2, 2048]⟩
abbrev S1x2x2048 : Shape := ⟨3, ![1, 2, 2048]⟩
abbrev S1 : Shape := ⟨1, ![1]⟩
abbrev S1x1x1 : Shape := ⟨3, ![1, 1, 1]⟩
abbrev S3x2048 : Shape := ⟨2, ![3, 2048]⟩
abbrev S1x2048 : Shape := ⟨2, ![1, 2048]⟩
abbrev S16x2048 : Shape := ⟨2, ![16, 2048]⟩
abbrev S16x256 : Shape := ⟨2, ![16, 256]⟩
abbrev S64x256 : Shape := ⟨2, ![64, 256]⟩
abbrev S128x256 : Shape := ⟨2, ![128, 256]⟩
abbrev S144x256 : Shape := ⟨2, ![144, 256]⟩
abbrev S4x2048 : Shape := ⟨2, ![4, 2048]⟩
abbrev S1x4x2048 : Shape := ⟨3, ![1, 4, 2048]⟩

abbrev nBuf : Space → Nat
  | .hbm => 86
  | .vmem => 28
  | .smem => 0
  | _ => 0

abbrev bufTy : (tb : Table) → Fin (tcTables nBuf tb) → BufTy
  | .hbm, ⟨0, _⟩ => ⟨S1x2048x3, .f32⟩
  | .hbm, ⟨1, _⟩ => ⟨S1x2048x3x3, .f32⟩
  | .hbm, ⟨2, _⟩ => ⟨S1x2048x16, .f32⟩
  | .hbm, ⟨3, _⟩ => ⟨S8x16, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8x3, .f32⟩
  | .hbm, ⟨10, _⟩ => ⟨S8, .f32⟩
  | .hbm, ⟨11, _⟩ => ⟨S8x8, .f32⟩
  | .hbm, ⟨12, _⟩ => ⟨S8, .f32⟩
  | .hbm, ⟨13, _⟩ => ⟨S16x8, .f32⟩
  | .hbm, ⟨14, _⟩ => ⟨S16, .f32⟩
  | .hbm, ⟨15, _⟩ => ⟨S16x16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S2048x16, .f32⟩
  | .hbm, ⟨20, _⟩ => ⟨S2048x3, .f32⟩
  | .hbm, ⟨21, _⟩ => ⟨S2048x3x3, .f32⟩
  | .hbm, ⟨22, _⟩ => ⟨S2048x9, .f32⟩
  | .hbm, ⟨23, _⟩ => ⟨S3x3, .i32⟩
  | .hbm, ⟨24, _⟩ => ⟨S3x3, .i32⟩
  | .hbm, ⟨25, _⟩ => ⟨S_, .i32⟩
  | .hbm, ⟨26, _⟩ => ⟨S3x3, .i32⟩
  | .hbm, ⟨27, _⟩ => ⟨S3x3, .i32⟩
  | .hbm, ⟨28, _⟩ => ⟨S3x3, .i1⟩
  | .hbm, ⟨29, _⟩ => ⟨S3x3, .f32⟩
  | .hbm, ⟨30, _⟩ => ⟨S3x9, .i32⟩
  | .hbm, ⟨31, _⟩ => ⟨S3x9, .i32⟩
  | .hbm, ⟨32, _⟩ => ⟨S_, .i32⟩
  | .hbm, ⟨33, _⟩ => ⟨S3x9, .i32⟩
  | .hbm, ⟨34, _⟩ => ⟨S3x9, .i32⟩
  | .hbm, ⟨35, _⟩ => ⟨S3x9, .i1⟩
  | .hbm, ⟨36, _⟩ => ⟨S3x9, .f32⟩
  | .hbm, ⟨37, _⟩ => ⟨S8x8, .i32⟩
  | .hbm, ⟨38, _⟩ => ⟨S8x8, .i32⟩
  | .hbm, ⟨39, _⟩ => ⟨S_, .i32⟩
  | .hbm, ⟨40, _⟩ => ⟨S8x8, .i32⟩
  | .hbm, ⟨41, _⟩ => ⟨S8x8, .i32⟩
  | .hbm, ⟨42, _⟩ => ⟨S8x8, .i1⟩
  | .hbm, ⟨43, _⟩ => ⟨S8x8, .f32⟩
  | .hbm, ⟨44, _⟩ => ⟨S16x16, .i32⟩
  | .hbm, ⟨45, _⟩ => ⟨S16x16, .i32⟩
  | .hbm, ⟨46, _⟩ => ⟨S_, .i32⟩
  | .hbm, ⟨47, _⟩ => ⟨S16x16, .i32⟩
  | .hbm, ⟨48, _⟩ => ⟨S16x16, .i32⟩
  | .hbm, ⟨49, _⟩ => ⟨S16x16, .i1⟩
  | .hbm, ⟨50, _⟩ => ⟨S16x16, .f32⟩
  | .hbm, ⟨51, _⟩ => ⟨S16x16, .i32⟩
  | .hbm, ⟨52, _⟩ => ⟨S16x16, .i32⟩
  | .hbm, ⟨53, _⟩ => ⟨S_, .i32⟩
  | .hbm, ⟨54, _⟩ => ⟨S16x16, .i32⟩
  | .hbm, ⟨55, _⟩ => ⟨S16x16, .i32⟩
  | .hbm, ⟨56, _⟩ => ⟨S16x16, .i1⟩
  | .hbm, ⟨57, _⟩ => ⟨S16x16, .f32⟩
  | .hbm, ⟨58, _⟩ => ⟨S8x1, .f32⟩
  | .hbm, ⟨59, _⟩ => ⟨S8x4, .f32⟩
  | .hbm, ⟨60, _⟩ => ⟨S8x1x4x1, .f32⟩
  | .hbm, ⟨61, _⟩ => ⟨S1x16x1x16, .f32⟩
  | .hbm, ⟨62, _⟩ => ⟨S8x16x4x16, .f32⟩
  | .hbm, ⟨63, _⟩ => ⟨S8x16x4x16, .f32⟩
  | .hbm, ⟨64, _⟩ => ⟨S8x16x4x16, .f32⟩
  | .hbm, ⟨65, _⟩ => ⟨S128x64, .f32⟩
  | .hbm, ⟨66, _⟩ => ⟨S128x64, .bf16⟩
  | .hbm, ⟨67, _⟩ => ⟨S8x1, .f32⟩
  | .hbm, ⟨68, _⟩ => ⟨S8x9, .f32⟩
  | .hbm, ⟨69, _⟩ => ⟨S8x1x9x1, .f32⟩
  | .hbm, ⟨70, _⟩ => ⟨S1x16x1x16, .f32⟩
  | .hbm, ⟨71, _⟩ => ⟨S8x16x9x16, .f32⟩
  | .hbm, ⟨72, _⟩ => ⟨S8x16x9x16, .f32⟩
  | .hbm, ⟨73, _⟩ => ⟨S8x16x9x16, .f32⟩
  | .hbm, ⟨74, _⟩ => ⟨S128x144, .f32⟩
  | .hbm, ⟨75, _⟩ => ⟨S128x144, .bf16⟩
  | .hbm, ⟨76, _⟩ => ⟨S8x1, .f32⟩
  | .hbm, ⟨77, _⟩ => ⟨S8x1, .f32⟩
  | .hbm, ⟨78, _⟩ => ⟨S8x1, .f32⟩
  | .hbm, ⟨79, _⟩ => ⟨S8x1, .f32⟩
  | .hbm, ⟨80, _⟩ => ⟨S16x1, .f32⟩
  | .hbm, ⟨81, _⟩ => ⟨S16x1, .f32⟩
  | .hbm, ⟨82, _⟩ => ⟨S16x1, .f32⟩
  | .hbm, ⟨83, _⟩ => ⟨S16x1, .f32⟩
  | .hbm, ⟨84, _⟩ => ⟨S2048x16, .f32⟩
  | .hbm, ⟨85, _⟩ => ⟨S1x2048x16, .f32⟩
  | .local _ .vmem, ⟨0, _⟩ => ⟨S2048x16, .f32⟩
  | .local _ .vmem, ⟨1, _⟩ => ⟨S2048x3, .f32⟩
  | .local _ .vmem, ⟨2, _⟩ => ⟨S2048x9, .f32⟩
  | .local _ .vmem, ⟨3, _⟩ => ⟨S16x3, .f32⟩
  | .local _ .vmem, ⟨4, _⟩ => ⟨S16x3, .f32⟩
  | .local _ .vmem, ⟨5, _⟩ => ⟨S16x9, .f32⟩
  | .local _ .vmem, ⟨6, _⟩ => ⟨S16x9, .f32⟩
  | .local _ .vmem, ⟨7, _⟩ => ⟨S3x3, .f32⟩
  | .local _ .vmem, ⟨8, _⟩ => ⟨S3x9, .f32⟩
  | .local _ .vmem, ⟨9, _⟩ => ⟨S8x8, .f32⟩
  | .local _ .vmem, ⟨10, _⟩ => ⟨S16x16, .f32⟩
  | .local _ .vmem, ⟨11, _⟩ => ⟨S8x16, .f32⟩
  | .local _ .vmem, ⟨12, _⟩ => ⟨S8x1, .f32⟩
  | .local _ .vmem, ⟨13, _⟩ => ⟨S8x8, .f32⟩
  | .local _ .vmem, ⟨14, _⟩ => ⟨S8x1, .f32⟩
  | .local _ .vmem, ⟨15, _⟩ => ⟨S8x1, .f32⟩
  | .local _ .vmem, ⟨16, _⟩ => ⟨S8x1, .f32⟩
  | .local _ .vmem, ⟨17, _⟩ => ⟨S128x64, .bf16⟩
  | .local _ .vmem, ⟨18, _⟩ => ⟨S128x144, .bf16⟩
  | .local _ .vmem, ⟨19, _⟩ => ⟨S16x8, .f32⟩
  | .local _ .vmem, ⟨20, _⟩ => ⟨S16x1, .f32⟩
  | .local _ .vmem, ⟨21, _⟩ => ⟨S16x16, .f32⟩
  | .local _ .vmem, ⟨22, _⟩ => ⟨S16x1, .f32⟩
  | .local _ .vmem, ⟨23, _⟩ => ⟨S16x1, .f32⟩
  | .local _ .vmem, ⟨24, _⟩ => ⟨S16x1, .f32⟩
  | .local _ .vmem, ⟨25, _⟩ => ⟨S2048x16, .f32⟩
  | .local _ .vmem, ⟨26, _⟩ => ⟨S224x2048, .f32⟩
  | .local _ .vmem, ⟨27, _⟩ => ⟨S2048x8, .f32⟩
  | _, _ => ⟨S1x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25

abbrev nD : Nat := 1
abbrev τ : Topo := Topo.v7x

variable {F : FTy → Type} [FloatOps F]

abbrev grid0 : Pipeline.Grid := ⟨1, ![130], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c128_i32 : BitVec 32 := 128#32
  let v4 : BitVec 1 := Scalar.cmpi .sle arg0 c128_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_293 : BitVec 32 := 1#32
  let v935 : BitVec 32 := Scalar.subi arg0 c1_i32_293
  let c16_i32 : BitVec 32 := 16#32
  let v936 : BitVec 32 := Scalar.muli v935 c16_i32
  let v937 : Index := Scalar.indexCast v936
  let c0_294 : Index := 0#32
  ![v937.toNat, 0]
def k0_cond3 (i : grid0.Coords) : BitVec 1 :=
  let arg0 : BitVec 32 := BitVec.ofNat 32 (i 0).val
  let c129_i32 : BitVec 32 := 129#32
  let v8 : BitVec 1 := Scalar.cmpi .eq arg0 c129_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x144 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S16x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2048x16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== KernelIdeal.lean ====
variable {F : FTy → Type} [FloatOps F] [Named F]
def κ : String → Option EReal := fun
  | "rsqrt2" => some (((Real.sqrt 2)⁻¹ : ℝ) : EReal)
  | _ => none
-- ==== ReferenceIdeal.lean ====
abbrev S1x2048x3 : Shape := ⟨3, ![1, 2048, 3]⟩
abbrev S1x2048x3x3 : Shape := ⟨4, ![1, 2048, 3, 3]⟩
abbrev S1x2048x16 : Shape := ⟨3, ![1, 2048, 16]⟩
abbrev S8x16 : Shape := ⟨2, ![8, 16]⟩
abbrev S8 : Shape := ⟨1, ![8]⟩
abbrev S8x8 : Shape := ⟨2, ![8, 8]⟩
abbrev S8x3 : Shape := ⟨2, ![8, 3]⟩
abbrev S16x8 : Shape := ⟨2, ![16, 8]⟩
abbrev S16 : Shape := ⟨1, ![16]⟩
abbrev S16x16 : Shape := ⟨2, ![16, 16]⟩
abbrev S1x2048x8 : Shape := ⟨3, ![1, 2048, 8]⟩
abbrev S1x1x8 : Shape := ⟨3, ![1, 1, 8]⟩
abbrev S_ : Shape := ⟨0, ![]⟩
abbrev S1x8x2048 : Shape := ⟨3, ![1, 8, 2048]⟩
abbrev S1x4x2x2048 : Shape := ⟨4, ![1, 4, 2, 2048]⟩
abbrev S1x4 : Shape := ⟨2, ![1, 4]⟩
abbrev S1x4x1x1 : Shape := ⟨4, ![1, 4, 1, 1]⟩
abbrev S1x8x1 : Shape := ⟨3, ![1, 8, 1]⟩
abbrev S1x2048x1x3 : Shape := ⟨4, ![1, 2048, 1, 3]⟩
abbrev S1x1x2048x3 : Shape := ⟨4, ![1, 1, 2048, 3]⟩
abbrev S1x2048x1x3x3 : Shape := ⟨5, ![1, 2048, 1, 3, 3]⟩
abbrev S1x2048x1x1x3 : Shape := ⟨5, ![1, 2048, 1, 1, 3]⟩
abbrev S1x1x2048x8 : Shape := ⟨4, ![1, 1, 2048, 8]⟩
abbrev S1x2048x2048x3 : Shape := ⟨4, ![1, 2048, 2048, 3]⟩
abbrev S1x2048x2048 : Shape := ⟨3, ![1, 2048, 2048]⟩
abbrev S1x2048x2048x3x1 : Shape := ⟨5, ![1, 2048, 2048, 3, 1]⟩
abbrev S2048x3x3 : Shape := ⟨3, ![2048, 3, 3]⟩
abbrev S2048x2048x3x1 : Shape := ⟨4, ![2048, 2048, 3, 1]⟩
abbrev S2048x3x2048x1 : Shape := ⟨4, ![2048, 3, 2048, 1]⟩
abbrev S3x8 : Shape := ⟨2, ![3, 8]⟩
abbrev S1x2048x2048x8 : Shape := ⟨4, ![1, 2048, 2048, 8]⟩
abbrev S1x1x1x8 : Shape := ⟨4, ![1, 1, 1, 8]⟩
abbrev S1x2048x2048x1 : Shape := ⟨4, ![1, 2048, 2048, 1]⟩
abbrev S1x1x16 : Shape := ⟨3, ![1, 1, 16]⟩
abbrev S1x16x2048 : Shape := ⟨3, ![1, 16, 2048]⟩
abbrev S1x4x4x2048 : Shape := ⟨4, ![1, 4, 4, 2048]⟩
abbrev S1x16x1 : Shape := ⟨3, ![1, 16, 1]⟩

abbrev nBuf : Space → Nat
  | .hbm => 233
  | .vmem => 0
  | .smem => 0
  | _ => 0

abbrev hbmTy0_0 (i : Nat) : BufTy := match i % 128 with
  | 0 => ⟨S1x2048x3, .f32⟩
  | 1 => ⟨S1x2048x3x3, .f32⟩
  | 2 => ⟨S1x2048x16, .f32⟩
  | 3 => ⟨S8x16, .f32⟩
  | 4 => ⟨S8, .f32⟩
  | 5 => ⟨S8x8, .f32⟩
  | 6 => ⟨S8, .f32⟩
  | 7 => ⟨S8, .f32⟩
  | 8 => ⟨S8, .f32⟩
  | 9 => ⟨S8x3, .f32⟩
  | 10 => ⟨S8, .f32⟩
  | 11 => ⟨S8x8, .f32⟩
  | 12 => ⟨S8, .f32⟩
  | 13 => ⟨S16x8, .f32⟩
  | 14 => ⟨S16, .f32⟩
  | 15 => ⟨S16x16, .f32⟩
  | 16 => ⟨S16, .f32⟩
  | 17 => ⟨S16, .f32⟩
  | 18 => ⟨S16, .f32⟩
  | 19 => ⟨S16x8, .f32⟩
  | 20 => ⟨S1x2048x8, .f32⟩
  | 21 => ⟨S1x1x8, .f32⟩
  | 22 => ⟨S1x2048x8, .f32⟩
  | 23 => ⟨S1x2048x8, .f32⟩
  | 24 => ⟨S_, .f32⟩
  | 25 => ⟨S_, .f32⟩
  | 26 => ⟨S1x2048x8, .f32⟩
  | 27 => ⟨S1x2048x8, .i1⟩
  | 28 => ⟨S_, .f32⟩
  | 29 => ⟨S1x2048x8, .f32⟩
  | 30 => ⟨S1x2048x8, .f32⟩
  | 31 => ⟨S1x2048x8, .f32⟩
  | 32 => ⟨S8x8, .f32⟩
  | 33 => ⟨S1x2048x8, .f32⟩
  | 34 => ⟨S1x1x8, .f32⟩
  | 35 => ⟨S1x2048x8, .f32⟩
  | 36 => ⟨S1x2048x8, .f32⟩
  | 37 => ⟨S_, .f32⟩
  | 38 => ⟨S_, .f32⟩
  | 39 => ⟨S1x2048x8, .f32⟩
  | 40 => ⟨S1x2048x8, .i1⟩
  | 41 => ⟨S_, .f32⟩
  | 42 => ⟨S1x2048x8, .f32⟩
  | 43 => ⟨S1x2048x8, .f32⟩
  | 44 => ⟨S1x2048x8, .f32⟩
  | 45 => ⟨S1x8x2048, .f32⟩
  | 46 => ⟨S1x4x2x2048, .f32⟩
  | 47 => ⟨S_, .f32⟩
  | 48 => ⟨S1x4, .f32⟩
  | 49 => ⟨S1x4x1x1, .f32⟩
  | 50 => ⟨S_, .f32⟩
  | 51 => ⟨S1x4x1x1, .f32⟩
  | 52 => ⟨S1x4x1x1, .f32⟩
  | 53 => ⟨S_, .i32⟩
  | 54 => ⟨S_, .f32⟩
  | 55 => ⟨S1x4, .f32⟩
  | 56 => ⟨S1x4x1x1, .f32⟩
  | 57 => ⟨S_, .f32⟩
  | 58 => ⟨S1x4x1x1, .f32⟩
  | 59 => ⟨S1x4x1x1, .f32⟩
  | 60 => ⟨S1x4x2x2048, .f32⟩
  | 61 => ⟨S1x4x2x2048, .f32⟩
  | 62 => ⟨S1x4x2x2048, .f32⟩
  | 63 => ⟨S_, .f32⟩
  | 64 => ⟨S_, .f32⟩
  | 65 => ⟨S_, .f32⟩
  | 66 => ⟨S_, .f32⟩
  | 67 => ⟨S1x4, .f32⟩
  | 68 => ⟨S1x4x1x1, .f32⟩
  | 69 => ⟨S1x4x1x1, .f32⟩
  | 70 => ⟨S1x4x1x1, .f32⟩
  | 71 => ⟨S_, .f32⟩
  | 72 => ⟨S_, .i1⟩
  | 73 => ⟨S_, .f32⟩
  | 74 => ⟨S_, .f32⟩
  | 75 => ⟨S1x4x1x1, .f32⟩
  | 76 => ⟨S1x4x1x1, .f32⟩
  | 77 => ⟨S1x4x2x2048, .f32⟩
  | 78 => ⟨S1x4x2x2048, .f32⟩
  | 79 => ⟨S_, .f32⟩
  | 80 => ⟨S1x4x1x1, .f32⟩
  | 81 => ⟨S1x4x1x1, .f32⟩
  | 82 => ⟨S1x4x1x1, .f32⟩
  | 83 => ⟨S1x4x2x2048, .f32⟩
  | 84 => ⟨S1x4x2x2048, .f32⟩
  | 85 => ⟨S1x8x2048, .f32⟩
  | 86 => ⟨S1x8x1, .f32⟩
  | 87 => ⟨S1x8x2048, .f32⟩
  | 88 => ⟨S1x8x2048, .f32⟩
  | 89 => ⟨S1x8x1, .f32⟩
  | 90 => ⟨S1x8x2048, .f32⟩
  | 91 => ⟨S1x8x2048, .f32⟩
  | 92 => ⟨S1x2048x8, .f32⟩
  | 93 => ⟨S_, .f32⟩
  | 94 => ⟨S_, .f32⟩
  | 95 => ⟨S_, .f32⟩
  | 96 => ⟨S_, .f32⟩
  | 97 => ⟨S1x2048x3, .f32⟩
  | 98 => ⟨S1x2048x3, .f32⟩
  | 99 => ⟨S1x2048x1x3, .f32⟩
  | 100 => ⟨S1x1x2048x3, .f32⟩
  | 101 => ⟨S1x2048x1x3, .f32⟩
  | 102 => ⟨S1x2048x3, .f32⟩
  | 103 => ⟨S1x2048x1x3x3, .f32⟩
  | 104 => ⟨S1x2048x1x1x3, .f32⟩
  | 105 => ⟨S1x2048x1x3, .f32⟩
  | 106 => ⟨S1x1x2048x3, .f32⟩
  | 107 => ⟨S1x1x2048x8, .f32⟩
  | 108 => ⟨S1x2048x2048x3, .f32⟩
  | 109 => ⟨S1x2048x2048x3, .f32⟩
  | 110 => ⟨S1x2048x2048x3, .f32⟩
  | 111 => ⟨S1x2048x2048x3, .f32⟩
  | 112 => ⟨S_, .f32⟩
  | 113 => ⟨S1x2048x2048, .f32⟩
  | 114 => ⟨S1x2048x2048x3, .f32⟩
  | 115 => ⟨S1x2048x2048x3, .f32⟩
  | 116 => ⟨S1x2048x2048x3, .f32⟩
  | 117 => ⟨S_, .f32⟩
  | 118 => ⟨S1x2048x2048, .f32⟩
  | 119 => ⟨S_, .f32⟩
  | 120 => ⟨S1x2048x2048, .f32⟩
  | 121 => ⟨S1x2048x2048, .f32⟩
  | 122 => ⟨S1x2048x2048, .f32⟩
  | 123 => ⟨S1x2048x2048, .f32⟩
  | 124 => ⟨S1x2048x2048, .f32⟩
  | 125 => ⟨S1x2048x2048, .f32⟩
  | 126 => ⟨S1x2048x2048x3, .f32⟩
  | 127 => ⟨S1x2048x2048x3, .f32⟩
  | _ => ⟨S1x2048x3, .f32⟩

abbrev hbmTy0_1 (i : Nat) : BufTy := match i % 128 with
  | 0 => ⟨S1x2048x2048x3, .f32⟩
  | 1 => ⟨S1x2048x2048x3x1, .f32⟩
  | 2 => ⟨S2048x3x3, .f32⟩
  | 3 => ⟨S2048x2048x3x1, .f32⟩
  | 4 => ⟨S2048x3x2048x1, .f32⟩
  | 5 => ⟨S2048x2048x3x1, .f32⟩
  | 6 => ⟨S1x2048x2048x3x1, .f32⟩
  | 7 => ⟨S1x2048x2048x3, .f32⟩
  | 8 => ⟨S3x8, .f32⟩
  | 9 => ⟨S1x2048x2048x8, .f32⟩
  | 10 => ⟨S1x1x1x8, .f32⟩
  | 11 => ⟨S1x2048x2048x8, .f32⟩
  | 12 => ⟨S1x2048x2048x8, .f32⟩
  | 13 => ⟨S_, .f32⟩
  | 14 => ⟨S1x2048x2048x8, .f32⟩
  | 15 => ⟨S1x2048x2048x8, .f32⟩
  | 16 => ⟨S8x8, .f32⟩
  | 17 => ⟨S1x2048x2048x8, .f32⟩
  | 18 => ⟨S1x1x1x8, .f32⟩
  | 19 => ⟨S1x2048x2048x8, .f32⟩
  | 20 => ⟨S1x2048x2048x8, .f32⟩
  | 21 => ⟨S_, .f32⟩
  | 22 => ⟨S1x2048x2048x8, .f32⟩
  | 23 => ⟨S1x2048x2048x8, .f32⟩
  | 24 => ⟨S1x2048x2048x1, .f32⟩
  | 25 => ⟨S1x2048x2048x8, .f32⟩
  | 26 => ⟨S1x2048x2048x8, .f32⟩
  | 27 => ⟨S1x2048x2048x8, .f32⟩
  | 28 => ⟨S1x2048x2048x8, .f32⟩
  | 29 => ⟨S_, .f32⟩
  | 30 => ⟨S1x2048x8, .f32⟩
  | 31 => ⟨S8x16, .f32⟩
  | 32 => ⟨S1x2048x16, .f32⟩
  | 33 => ⟨S1x1x16, .f32⟩
  | 34 => ⟨S1x2048x16, .f32⟩
  | 35 => ⟨S1x2048x16, .f32⟩
  | 36 => ⟨S_, .f32⟩
  | 37 => ⟨S_, .f32⟩
  | 38 => ⟨S1x2048x16, .f32⟩
  | 39 => ⟨S1x2048x16, .i1⟩
  | 40 => ⟨S_, .f32⟩
  | 41 => ⟨S1x2048x16, .f32⟩
  | 42 => ⟨S1x2048x16, .f32⟩
  | 43 => ⟨S1x2048x16, .f32⟩
  | 44 => ⟨S16x16, .f32⟩
  | 45 => ⟨S1x2048x16, .f32⟩
  | 46 => ⟨S1x1x16, .f32⟩
  | 47 => ⟨S1x2048x16, .f32⟩
  | 48 => ⟨S1x2048x16, .f32⟩
  | 49 => ⟨S_, .f32⟩
  | 50 => ⟨S_, .f32⟩
  | 51 => ⟨S1x2048x16, .f32⟩
  | 52 => ⟨S1x2048x16, .i1⟩
  | 53 => ⟨S_, .f32⟩
  | 54 => ⟨S1x2048x16, .f32⟩
  | 55 => ⟨S1x2048x16, .f32⟩
  | 56 => ⟨S1x2048x16, .f32⟩
  | 57 => ⟨S1x16x2048, .f32⟩
  | 58 => ⟨S1x4x4x2048, .f32⟩
  | 59 => ⟨S_, .f32⟩
  | 60 => ⟨S1x4, .f32⟩
  | 61 => ⟨S1x4x1x1, .f32⟩
  | 62 => ⟨S_, .f32⟩
  | 63 => ⟨S1x4x1x1, .f32⟩
  | 64 => ⟨S1x4x1x1, .f32⟩
  | 65 => ⟨S_, .i32⟩
  | 66 => ⟨S_, .f32⟩
  | 67 => ⟨S1x4, .f32⟩
  | 68 => ⟨S1x4x1x1, .f32⟩
  | 69 => ⟨S_, .f32⟩
  | 70 => ⟨S1x4x1x1, .f32⟩
  | 71 => ⟨S1x4x1x1, .f32⟩
  | 72 => ⟨S1x4x4x2048, .f32⟩
  | 73 => ⟨S1x4x4x2048, .f32⟩
  | 74 => ⟨S1x4x4x2048, .f32⟩
  | 75 => ⟨S_, .f32⟩
  | 76 => ⟨S_, .f32⟩
  | 77 => ⟨S_, .f32⟩
  | 78 => ⟨S_, .f32⟩
  | 79 => ⟨S1x4, .f32⟩
  | 80 => ⟨S1x4x1x1, .f32⟩
  | 81 => ⟨S1x4x1x1, .f32⟩
  | 82 => ⟨S1x4x1x1, .f32⟩
  | 83 => ⟨S_, .f32⟩
  | 84 => ⟨S_, .i1⟩
  | 85 => ⟨S_, .f32⟩
  | 86 => ⟨S_, .f32⟩
  | 87 => ⟨S1x4x1x1, .f32⟩
  | 88 => ⟨S1x4x1x1, .f32⟩
  | 89 => ⟨S1x4x4x2048, .f32⟩
  | 90 => ⟨S1x4x4x2048, .f32⟩
  | 91 => ⟨S_, .f32⟩
  | 92 => ⟨S1x4x1x1, .f32⟩
  | 93 => ⟨S1x4x1x1, .f32⟩
  | 94 => ⟨S1x4x1x1, .f32⟩
  | 95 => ⟨S1x4x4x2048, .f32⟩
  | 96 => ⟨S1x4x4x2048, .f32⟩
  | 97 => ⟨S1x16x2048, .f32⟩
  | 98 => ⟨S1x16x1, .f32⟩
  | 99 => ⟨S1x16x2048, .f32⟩
  | 100 => ⟨S1x16x2048, .f32⟩
  | 101 => ⟨S1x16x1, .f32⟩
  | 102 => ⟨S1x16x2048, .f32⟩
  | 103 => ⟨S1x16x2048, .f32⟩
  | 104 => ⟨S1x2048x16, .f32⟩
  | _ => ⟨S1x2048x3, .f32⟩

abbrev hbmTy (i : Nat) : BufTy := match i / 128 with
  | 0 => hbmTy0_0 i
  | 1 => hbmTy0_1 i
  | _ => ⟨S1x2048x3, .f32⟩

abbrev bufTy : (tb : Table) → Fin (tcTables nBuf tb) → BufTy
  | .hbm, ⟨i, _⟩ => hbmTy i
  | _, _ => ⟨S1x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_1 : Ref sig .tc := ⟨.hbm, 47, rfl⟩
abbrev main_v14 : Ref sig .tc := ⟨.hbm, 48, rfl⟩
abbrev main_v15 : Ref sig .tc := ⟨.hbm, 49, rfl⟩
abbrev main_cst_2 : Ref sig .tc := ⟨.hbm, 50, rfl⟩
abbrev main_v16 : Ref sig .tc := ⟨.hbm, 51, rfl⟩
abbrev main_v17 : Ref sig .tc := ⟨.hbm, 52, rfl⟩
abbrev main_c : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_cst_1 : Ref sig .tc := ⟨.hbm, 64, rfl⟩
abbrev main_call2_v8 : Ref sig .tc := ⟨.hbm, 65, rfl⟩
abbrev main_call2_cst_2 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_cst_3 : Ref sig .tc := ⟨.hbm, 71, rfl⟩
abbrev main_call2_v13 : Ref sig .tc := ⟨.hbm, 72, rfl⟩
abbrev main_call2_cst_4 : Ref sig .tc := ⟨.hbm, 73, rfl⟩
abbrev main_call2_call0_v0 : Ref sig .tc := ⟨.hbm, 74, rfl⟩
abbrev main_call2_call0_v1 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_cst_3 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_cst_4 : Ref sig .tc := ⟨.hbm, 93, rfl⟩
abbrev main_v34 : Ref sig .tc := ⟨.hbm, 94, rfl⟩
abbrev main_cst_5 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_6 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_cst_7 : Ref sig .tc := ⟨.hbm, 117, rfl⟩
abbrev main_v55 : Ref sig .tc := ⟨.hbm, 118, rfl⟩
abbrev main_cst_8 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_call3_cst : Ref sig .tc := ⟨.hbm, 141, rfl⟩
abbrev main_call3_v0 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_call4_cst : Ref sig .tc := ⟨.hbm, 149, rfl⟩
abbrev main_call4_v0 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_cst_9 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_cst_10 : Ref sig .tc := ⟨.hbm, 164, rfl⟩
abbrev main_call5_cst : Ref sig .tc := ⟨.hbm, 165, rfl⟩
abbrev main_call5_v0 : Ref sig .tc := ⟨.hbm, 166, rfl⟩
abbrev main_call5_v1 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_cst_11 : Ref sig .tc := ⟨.hbm, 177, rfl⟩
abbrev main_call6_cst : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_12 : Ref sig .tc := ⟨.hbm, 187, rfl⟩
abbrev main_v104 : Ref sig .tc := ⟨.hbm, 188, rfl⟩
abbrev main_v105 : Ref sig .tc := ⟨.hbm, 189, rfl⟩
abbrev main_cst_13 : Ref sig .tc := ⟨.hbm, 190, rfl⟩
abbrev main_v106 : Ref sig .tc := ⟨.hbm, 191, rfl⟩
abbrev main_v107 : Ref sig .tc := ⟨.hbm, 192, rfl⟩
abbrev main_c_14 : Ref sig .tc := ⟨.hbm, 193, rfl⟩
abbrev main_call7_cst : Ref sig .tc := ⟨.hbm, 194, rfl⟩
abbrev main_call7_v0 : Ref sig .tc := ⟨.hbm, 195, rfl⟩
abbrev main_call7_v1 : Ref sig .tc := ⟨.hbm, 196, rfl⟩
abbrev main_call7_cst_0 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_call7_v5 : Ref sig .tc := ⟨.hbm, 201, rfl⟩
abbrev main_call7_v6 : Ref sig .tc := ⟨.hbm, 202, rfl⟩
abbrev main_call7_v7 : Ref sig .tc := ⟨.hbm, 203, rfl⟩
abbrev main_call7_cst_1 : Ref sig .tc := ⟨.hbm, 204, rfl⟩
abbrev main_call7_v8 : Ref sig .tc := ⟨.hbm, 205, rfl⟩
abbrev main_call7_cst_2 : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_call7_v12 : Ref sig .tc := ⟨.hbm, 210, rfl⟩
abbrev main_call7_cst_3 : Ref sig .tc := ⟨.hbm, 211, rfl⟩
abbrev main_call7_v13 : Ref sig .tc := ⟨.hbm, 212, rfl⟩
abbrev main_call7_cst_4 : Ref sig .tc := ⟨.hbm, 213, rfl⟩
abbrev main_call7_call0_v0 : Ref sig .tc := ⟨.hbm, 214, rfl⟩
abbrev main_call7_call0_v1 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_cst_15 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_v118 : Ref sig .tc := ⟨.hbm, 227, rfl⟩
abbrev main_v119 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩

abbrev nD : Nat := 1
abbrev τ : Topo := Topo.v7x

variable {F : FTy → Type} [FloatOps F]
-- ==== Proof.Kernel.RunAValue.lean ====
module

public import proofs.«01_k».proof.Proof.Kernel.RunA

/-! What the body writes at point 0. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x16 .f32) (harg1 : arg1.IsWhole)
  (arg2 : Memref sig .tc .vmem S2048x3 .f32) (harg2 : arg2.IsWhole)
  (arg3 : Memref sig .tc .vmem S2048x9 .f32) (harg3 : arg3.IsWhole)
  (arg4 : Memref sig .tc .vmem S16x3 .f32) (harg4 : arg4.IsWhole)
  (arg5 : Memref sig .tc .vmem S16x9 .f32) (harg5 : arg5.IsWhole)
  (arg6 : Memref sig .tc .vmem S3x3 .f32) (harg6 : arg6.IsWhole)
  (arg7 : Memref sig .tc .vmem S3x9 .f32) (harg7 : arg7.IsWhole)
  (arg8 : Memref sig .tc .vmem S8x8 .f32) (harg8 : arg8.IsWhole)
  (arg9 : Memref sig .tc .vmem S16x16 .f32) (harg9 : arg9.IsWhole)
  (arg10 : Memref sig .tc .vmem S8x16 .f32) (harg10 : arg10.IsWhole)
  (arg11 : Memref sig .tc .vmem S8x1 .f32) (harg11 : arg11.IsWhole)
  (arg12 : Memref sig .tc .vmem S8x8 .f32) (harg12 : arg12.IsWhole)
  (arg13 : Memref sig .tc .vmem S8x1 .f32) (harg13 : arg13.IsWhole)
  (arg14 : Memref sig .tc .vmem S8x1 .f32) (harg14 : arg14.IsWhole)
  (arg15 : Memref sig .tc .vmem S8x1 .f32) (harg15 : arg15.IsWhole)
  (arg16 : Memref sig .tc .vmem S128x64 .bf16) (harg16 : arg16.IsWhole)
  (arg17 : Memref sig .tc .vmem S128x144 .bf16) (harg17 : arg17.IsWhole)
  (arg18 : Memref sig .tc .vmem S16x8 .f32) (harg18 : arg18.IsWhole)
  (arg19 : Memref sig .tc .vmem S16x1 .f32) (harg19 : arg19.IsWhole)
  (arg20 : Memref sig .tc .vmem S16x16 .f32) (harg20 : arg20.IsWhole)
  (arg21 : Memref sig .tc .vmem S16x1 .f32) (harg21 : arg21.IsWhole)
  (arg22 : Memref sig .tc .vmem S16x1 .f32) (harg22 : arg22.IsWhole)
  (arg23 : Memref sig .tc .vmem S16x1 .f32) (harg23 : arg23.IsWhole)
  (arg24 : Memref sig .tc .vmem S2048x16 .f32) (harg24 : arg24.IsWhole)
  (arg25 : Memref sig .tc .vmem S224x2048 .f32) (harg25 : arg25.IsWhole)
  (arg26 : Memref sig .tc .vmem S2048x8 .f32) (harg26 : arg26.IsWhole)

set_option maxHeartbeats 0 in
/-- The run writes one block, whatever the memref it writes held before. -/
theorem runA_block (hc0 : cond0_0 i) (hc1 : ¬cond0_1 i) (hc2 : ¬cond0_2 i)
    (x0 : Vec F S2048x16 .f32) (x1 : Vec F S2048x3 .f32) (x2 : Vec F S2048x9 .f32) (x5 : Vec F S3x3 .f32) (x6 : Vec F S3x9 .f32) (x9 : Vec F S8x16 .f32) (x10 : Vec F S8x1 .f32) (x11 : Vec F S8x8 .f32) (x12 : Vec F S8x1 .f32) (x13 : Vec F S8x1 .f32) (x14 : Vec F S8x1 .f32) :
    ∃ v : Vec F S224x2048 .f32, ∀ d0 : Vec F S224x2048 .f32, (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x5 x6 x9 x10 x11 x12 x13 x14 d0).1 = [⟨Rect.unit ![0, 0] S224x2048.size inb_S224x2048_S224x2048_0_0, v⟩] :=
  ⟨_, fun _ => rfl⟩

/-- The block the run writes. -/
def valA (hc0 : cond0_0 i) (hc1 : ¬cond0_1 i) (hc2 : ¬cond0_2 i)
    (x0 : Vec F S2048x16 .f32) (x1 : Vec F S2048x3 .f32) (x2 : Vec F S2048x9 .f32) (x5 : Vec F S3x3 .f32) (x6 : Vec F S3x9 .f32) (x9 : Vec F S8x16 .f32) (x10 : Vec F S8x1 .f32) (x11 : Vec F S8x8 .f32) (x12 : Vec F S8x1 .f32) (x13 : Vec F S8x1 .f32) (x14 : Vec F S8x1 .f32) : Vec F S224x2048 .f32 :=
  (runA_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x5 x6 x9 x10 x11 x12 x13 x14).choose

/-- The contents the run leaves. -/
theorem runA_read (hc0 : cond0_0 i) (hc1 : ¬cond0_1 i) (hc2 : ¬cond0_2 i)
    (x0 : Vec F S2048x16 .f32) (x1 : Vec F S2048x3 .f32) (x2 : Vec F S2048x9 .f32) (x5 : Vec F S3x3 .f32) (x6 : Vec F S3x9 .f32) (x9 : Vec F S8x16 .f32) (x10 : Vec F S8x1 .f32) (x11 : Vec F S8x8 .f32) (x12 : Vec F S8x1 .f32) (x13 : Vec F S8x1 .f32) (x14 : Vec F S8x1 .f32) (d0 : Vec F S224x2048 .f32) :
    arg25.view.read (Elt F) (arg25.view.writes (Elt F) (harg25.unread (Val := Elt F) d0)
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x5 x6 x9 x10 x11 x12 x13 x14 d0).1)
      = valA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x5 x6 x9 x10 x11 x12 x13 x14 := by
  rw [(runA_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x5 x6 x9 x10 x11 x12 x13 x14).choose_spec d0]; exact View.read_writes_full _ _ _ _ _

end Cert.Kernel.Hand
-- ==== Proof.Kernel.RunBValue.lean ====
module

public import proofs.«01_k».proof.Proof.Kernel.RunB

/-! What the body writes at points 1 to 128. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x16 .f32) (harg1 : arg1.IsWhole)
  (arg2 : Memref sig .tc .vmem S2048x3 .f32) (harg2 : arg2.IsWhole)
  (arg3 : Memref sig .tc .vmem S2048x9 .f32) (harg3 : arg3.IsWhole)
  (arg4 : Memref sig .tc .vmem S16x3 .f32) (harg4 : arg4.IsWhole)
  (arg5 : Memref sig .tc .vmem S16x9 .f32) (harg5 : arg5.IsWhole)
  (arg6 : Memref sig .tc .vmem S3x3 .f32) (harg6 : arg6.IsWhole)
  (arg7 : Memref sig .tc .vmem S3x9 .f32) (harg7 : arg7.IsWhole)
  (arg8 : Memref sig .tc .vmem S8x8 .f32) (harg8 : arg8.IsWhole)
  (arg9 : Memref sig .tc .vmem S16x16 .f32) (harg9 : arg9.IsWhole)
  (arg10 : Memref sig .tc .vmem S8x16 .f32) (harg10 : arg10.IsWhole)
  (arg11 : Memref sig .tc .vmem S8x1 .f32) (harg11 : arg11.IsWhole)
  (arg12 : Memref sig .tc .vmem S8x8 .f32) (harg12 : arg12.IsWhole)
  (arg13 : Memref sig .tc .vmem S8x1 .f32) (harg13 : arg13.IsWhole)
  (arg14 : Memref sig .tc .vmem S8x1 .f32) (harg14 : arg14.IsWhole)
  (arg15 : Memref sig .tc .vmem S8x1 .f32) (harg15 : arg15.IsWhole)
  (arg16 : Memref sig .tc .vmem S128x64 .bf16) (harg16 : arg16.IsWhole)
  (arg17 : Memref sig .tc .vmem S128x144 .bf16) (harg17 : arg17.IsWhole)
  (arg18 : Memref sig .tc .vmem S16x8 .f32) (harg18 : arg18.IsWhole)
  (arg19 : Memref sig .tc .vmem S16x1 .f32) (harg19 : arg19.IsWhole)
  (arg20 : Memref sig .tc .vmem S16x16 .f32) (harg20 : arg20.IsWhole)
  (arg21 : Memref sig .tc .vmem S16x1 .f32) (harg21 : arg21.IsWhole)
  (arg22 : Memref sig .tc .vmem S16x1 .f32) (harg22 : arg22.IsWhole)
  (arg23 : Memref sig .tc .vmem S16x1 .f32) (harg23 : arg23.IsWhole)
  (arg24 : Memref sig .tc .vmem S2048x16 .f32) (harg24 : arg24.IsWhole)
  (arg25 : Memref sig .tc .vmem S224x2048 .f32) (harg25 : arg25.IsWhole)
  (arg26 : Memref sig .tc .vmem S2048x8 .f32) (harg26 : arg26.IsWhole)

set_option maxHeartbeats 0 in
/-- The run writes one block, whatever the memref it writes held before. -/
theorem runB_block (hc0 : ¬cond0_0 i) (hc1 : cond0_1 i) (hc2 : ¬cond0_2 i)
    (x3 : Vec F S16x3 .f32) (x4 : Vec F S16x9 .f32) (x15 : Vec F S128x64 .bf16) (x16 : Vec F S128x144 .bf16) (d0 : Vec F S224x2048 .f32) :
    ∃ v : Vec F S16x8 .f32, ∀ d1 : Vec F S2048x8 .f32, (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x3 x4 x15 x16 d0 d1).1 = [⟨Rect.unit (k0_off1 i) S16x8.size (k0_off1_inb i hc1), v⟩] :=
  ⟨_, fun _ => rfl⟩

/-- The block the run writes. -/
def valB (hc0 : ¬cond0_0 i) (hc1 : cond0_1 i) (hc2 : ¬cond0_2 i)
    (x3 : Vec F S16x3 .f32) (x4 : Vec F S16x9 .f32) (x15 : Vec F S128x64 .bf16) (x16 : Vec F S128x144 .bf16) (d0 : Vec F S224x2048 .f32) : Vec F S16x8 .f32 :=
  (runB_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x3 x4 x15 x16 d0).choose

/-- The contents the run leaves. -/
theorem runB_read (hc0 : ¬cond0_0 i) (hc1 : cond0_1 i) (hc2 : ¬cond0_2 i)
    (x3 : Vec F S16x3 .f32) (x4 : Vec F S16x9 .f32) (x15 : Vec F S128x64 .bf16) (x16 : Vec F S128x144 .bf16) (d0 : Vec F S224x2048 .f32) (d1 : Vec F S2048x8 .f32) :
    arg26.view.read (Elt F) (arg26.view.writes (Elt F) (harg26.unread (Val := Elt F) d1)
      (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x3 x4 x15 x16 d0 d1).1)
      = VecWindow.put d1 (k0_off1 i) S16x8.size (valB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x3 x4 x15 x16 d0) := by
  rw [(runB_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x3 x4 x15 x16 d0).choose_spec d1]; exact (View.read_writes_cons_put _ _ _ _ _ rfl).trans (by rw [View.writes_nil, harg26.read_unread]; rfl)

end Cert.Kernel.Hand
-- ==== Proof.Kernel.RunCValue.lean ====
module

public import proofs.«01_k».proof.Proof.Kernel.RunC

/-! What the body writes at point 129. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x16 .f32) (harg1 : arg1.IsWhole)
  (arg2 : Memref sig .tc .vmem S2048x3 .f32) (harg2 : arg2.IsWhole)
  (arg3 : Memref sig .tc .vmem S2048x9 .f32) (harg3 : arg3.IsWhole)
  (arg4 : Memref sig .tc .vmem S16x3 .f32) (harg4 : arg4.IsWhole)
  (arg5 : Memref sig .tc .vmem S16x9 .f32) (harg5 : arg5.IsWhole)
  (arg6 : Memref sig .tc .vmem S3x3 .f32) (harg6 : arg6.IsWhole)
  (arg7 : Memref sig .tc .vmem S3x9 .f32) (harg7 : arg7.IsWhole)
  (arg8 : Memref sig .tc .vmem S8x8 .f32) (harg8 : arg8.IsWhole)
  (arg9 : Memref sig .tc .vmem S16x16 .f32) (harg9 : arg9.IsWhole)
  (arg10 : Memref sig .tc .vmem S8x16 .f32) (harg10 : arg10.IsWhole)
  (arg11 : Memref sig .tc .vmem S8x1 .f32) (harg11 : arg11.IsWhole)
  (arg12 : Memref sig .tc .vmem S8x8 .f32) (harg12 : arg12.IsWhole)
  (arg13 : Memref sig .tc .vmem S8x1 .f32) (harg13 : arg13.IsWhole)
  (arg14 : Memref sig .tc .vmem S8x1 .f32) (harg14 : arg14.IsWhole)
  (arg15 : Memref sig .tc .vmem S8x1 .f32) (harg15 : arg15.IsWhole)
  (arg16 : Memref sig .tc .vmem S128x64 .bf16) (harg16 : arg16.IsWhole)
  (arg17 : Memref sig .tc .vmem S128x144 .bf16) (harg17 : arg17.IsWhole)
  (arg18 : Memref sig .tc .vmem S16x8 .f32) (harg18 : arg18.IsWhole)
  (arg19 : Memref sig .tc .vmem S16x1 .f32) (harg19 : arg19.IsWhole)
  (arg20 : Memref sig .tc .vmem S16x16 .f32) (harg20 : arg20.IsWhole)
  (arg21 : Memref sig .tc .vmem S16x1 .f32) (harg21 : arg21.IsWhole)
  (arg22 : Memref sig .tc .vmem S16x1 .f32) (harg22 : arg22.IsWhole)
  (arg23 : Memref sig .tc .vmem S16x1 .f32) (harg23 : arg23.IsWhole)
  (arg24 : Memref sig .tc .vmem S2048x16 .f32) (harg24 : arg24.IsWhole)
  (arg25 : Memref sig .tc .vmem S224x2048 .f32) (harg25 : arg25.IsWhole)
  (arg26 : Memref sig .tc .vmem S2048x8 .f32) (harg26 : arg26.IsWhole)

set_option maxHeartbeats 0 in
/-- The run writes one block, whatever the memref it writes held before. -/
theorem runC_block (hc0 : ¬cond0_0 i) (hc1 : ¬cond0_1 i) (hc2 : cond0_2 i)
    (x7 : Vec F S8x8 .f32) (x8 : Vec F S16x16 .f32) (x17 : Vec F S16x8 .f32) (x18 : Vec F S16x1 .f32) (x19 : Vec F S16x16 .f32) (x20 : Vec F S16x1 .f32) (x21 : Vec F S16x1 .f32) (x22 : Vec F S16x1 .f32) (d1 : Vec F S2048x8 .f32) :
    ∃ v : Vec F S2048x16 .f32, ∀ o : Vec F S2048x16 .f32, (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x7 x8 x17 x18 x19 x20 x21 x22 d1 o).1 = [⟨Rect.unit ![0, 0] S2048x16.size inb_S2048x16_S2048x16_0_0, v⟩] :=
  ⟨_, fun _ => rfl⟩

/-- The block the run writes. -/
def valC (hc0 : ¬cond0_0 i) (hc1 : ¬cond0_1 i) (hc2 : cond0_2 i)
    (x7 : Vec F S8x8 .f32) (x8 : Vec F S16x16 .f32) (x17 : Vec F S16x8 .f32) (x18 : Vec F S16x1 .f32) (x19 : Vec F S16x16 .f32) (x20 : Vec F S16x1 .f32) (x21 : Vec F S16x1 .f32) (x22 : Vec F S16x1 .f32) (d1 : Vec F S2048x8 .f32) : Vec F S2048x16 .f32 :=
  (runC_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x7 x8 x17 x18 x19 x20 x21 x22 d1).choose

/-- The contents the run leaves. -/
theorem runC_read (hc0 : ¬cond0_0 i) (hc1 : ¬cond0_1 i) (hc2 : cond0_2 i)
    (x7 : Vec F S8x8 .f32) (x8 : Vec F S16x16 .f32) (x17 : Vec F S16x8 .f32) (x18 : Vec F S16x1 .f32) (x19 : Vec F S16x16 .f32) (x20 : Vec F S16x1 .f32) (x21 : Vec F S16x1 .f32) (x22 : Vec F S16x1 .f32) (d1 : Vec F S2048x8 .f32) (o : Vec F S2048x16 .f32) :
    arg24.view.read (Elt F) (arg24.view.writes (Elt F) (harg24.unread (Val := Elt F) o)
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x7 x8 x17 x18 x19 x20 x21 x22 d1 o).1)
      = valC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x7 x8 x17 x18 x19 x20 x21 x22 d1 := by
  rw [(runC_block c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x7 x8 x17 x18 x19 x20 x21 x22 d1).choose_spec o]; exact View.read_writes_full _ _ _ _ _

end Cert.Kernel.Hand
-- ==== Proof.KernelIdeal.Blocks.lean ====
module

public import proofs.«01_k».proof.Proof.Gen.KernelIdeal.Frame
public import proofs.«01_k».proof.Proof.Gen.KernelIdeal.Skeleton
public import Idealize.ShloMosaic.Lib.VecWindow
public import Idealize.ShloMosaic.Lib.WholeRead

/-! What the three kinds of grid point compute, as functions of the blocks they read. -/

@[expose] public section

set_option maxRecDepth 16384

noncomputable section

namespace Cert.KernelIdeal.Hand

open Cert.KernelIdeal.Gen
open Idealize.ShloMosaic Idealize.ShloMosaic.TcCoe

variable {F : FTy → Type} [FloatOps F] [Named F]

/-! ## Point 0: the table of per-point features -/

/-- The leaky rectifier with slope 0.2. -/
def leaky {s : Shape} (v : FVec F s .f32) : FVec F s .f32 :=
  select (cmpf .oge v (broadcast s (Scalar.ofBits .f32 0x00000000#32))) v
    (mulf (broadcast s (Scalar.ofBits .f32 0x3E4CCCCD#32)) v)

/-- First dense layer of the input network, channels by points. -/
def inDense1 (feat : FVec F S2048x16 .f32) (W : FVec F S8x16 .f32) (b : FVec F S8x1 .f32) : FVec F S8x2048 .f32 :=
  addf (matmul dot_S8x16_S2048x16_S8x2048_1_1_0_0_n_n none W feat (constant S8x2048 .f32 0x00000000#32))
    (broadcastTo S8x2048 b broadcasts_S8x1_S8x2048)

/-- Second dense layer of the input network. -/
def inDense2 (x : FVec F S8x2048 .f32) (W : FVec F S8x8 .f32) (b : FVec F S8x1 .f32) : FVec F S8x2048 .f32 :=
  addf (matmul dot_S8x8_S8x2048_S8x2048_1_0_0_1_n_n none W x (constant S8x2048 .f32 0x00000000#32))
    (broadcastTo S8x2048 b broadcasts_S8x1_S8x2048)

/-- The mean of a group of two channels: the sum of its entries over 4096. -/
def mean2 (s : FVec F S2x2048 .f32) : F .f32 :=
  Scalar.divf (extractAt ![0, 0, 0] (shapeCast S1x1x1
    (multiReduction .add [1, 2] S1 (shapeCast S1x2x2048 s shapeCasts_S2x2048_S1x2x2048) 0x00000000#32 reduces_S1x2x2048_S1 (.inl rfl) rfl)
    shapeCasts_S1_S1x1x1) inpos_S1x1x1_p0_0_0) (Scalar.ofBits .f32 0x45800000#32)

/-- A group of two channels less its mean. -/
def centred2 (s : FVec F S2x2048 .f32) : FVec F S2x2048 .f32 := subf s (broadcast S2x2048 (mean2 s))

/-- A group of two channels, centred and divided by its deviation. -/
def norm2 (s : FVec F S2x2048 .f32) : FVec F S2x2048 .f32 :=
  divf (centred2 s) (broadcast S2x2048 (Scalar.sqrt
    (Scalar.addf (mean2 (mulf (centred2 s) (centred2 s))) (Scalar.ofBits .f32 0x3727C5AC#32))))

/-- Group normalisation of the input network, four groups of two channels. -/
def inNorm (x : FVec F S8x2048 .f32) (g be : FVec F S8x1 .f32) : FVec F S8x2048 .f32 :=
  addf (mulf (concatenate S8x2048 0
      [⟨S2x2048, norm2 (extractStridedSlice S2x2048 ![0, 0] x slices_S8x2048_o0_0_S2x2048)⟩,
       ⟨S2x2048, norm2 (extractStridedSlice S2x2048 ![2, 0] x slices_S8x2048_o2_0_S2x2048)⟩,
       ⟨S2x2048, norm2 (extractStridedSlice S2x2048 ![4, 0] x slices_S8x2048_o4_0_S2x2048)⟩,
       ⟨S2x2048, norm2 (extractStridedSlice S2x2048 ![6, 0] x slices_S8x2048_o6_0_S2x2048)⟩]
      concatenates_S2x2048_S2x2048_S2x2048_S2x2048_S8x2048_d0)
    (broadcastTo S8x2048 g broadcasts_S8x1_S8x2048)) (broadcastTo S8x2048 be broadcasts_S8x1_S8x2048)

/-- The input network. -/
def inNet (feat : FVec F S2048x16 .f32) (W1 : FVec F S8x16 .f32) (b1 : FVec F S8x1 .f32) (W2 : FVec F S8x8 .f32)
    (b2 g be : FVec F S8x1 .f32) : FVec F S8x2048 .f32 :=
  inNorm (leaky (inDense2 (leaky (inDense1 feat W1 b1)) W2 b2)) g be

/-- The scaled coordinates, coordinate by point. -/
def ptsT (pts : FVec F S2048x3 .f32) (sel : FVec F S3x3 .f32) : FVec F S3x2048 .f32 :=
  matmul dot_S3x3_S2048x3_S3x2048_1_1_0_0_n_n none (mulf sel (broadcast S3x3 (Named.named κ "rsqrt2" 0x3F3504F3#32))) pts
    (constant S3x2048 .f32 0x00000000#32)

/-- The normals, coordinate by point. -/
def nrmT (nuv : FVec F S2048x9 .f32) (sel : FVec F S3x9 .f32) : FVec F S3x2048 .f32 :=
  matmul dot_S3x9_S2048x9_S3x2048_1_1_0_0_n_n none sel nuv (constant S3x2048 .f32 0x00000000#32)

/-- One row laid under itself sixteen times. -/
def rep (v : FVec F S1x2048 .f32) : FVec F S16x2048 .f32 :=
  broadcastTo S16x2048 (shapeCast S1x2048 v shapeCasts_S1x2048_S1x2048) broadcasts_S1x2048_S16x2048

/-- The table: fourteen quantities per point, three coordinates, three normals and eight features, each on sixteen rows. -/
def table (x n : FVec F S3x2048 .f32) (f : FVec F S8x2048 .f32) : FVec F S224x2048 .f32 :=
  concatenate S224x2048 0
    [⟨S16x2048, rep (extractStridedSlice S1x2048 ![0, 0] x slices_S3x2048_o0_0_S1x2048)⟩,
     ⟨S16x2048, rep (extractStridedSlice S1x2048 ![1, 0] x slices_S3x2048_o1_0_S1x2048)⟩,
     ⟨S16x2048, rep (extractStridedSlice S1x2048 ![2, 0] x slices_S3x2048_o2_0_S1x2048)⟩,
     ⟨S16x2048, rep (extractStridedSlice S1x2048 ![0, 0] n slices_S3x2048_o0_0_S1x2048)⟩,
     ⟨S16x2048, rep (extractStridedSlice S1x2048 ![1, 0] n slices_S3x2048_o1_0_S1x2048)⟩,
     ⟨S16x2048, rep (extractStridedSlice S1x2048 ![2, 0] n slices_S3x2048_o2_0_S1x2048)⟩,
     ⟨S16x2048, rep (extractStridedSlice S1x2048 ![0, 0] f slices_S8x2048_o0_0_S1x2048)⟩,
     ⟨S16x2048, rep (extractStridedSlice S1x2048 ![1, 0] f slices_S8x2048_o1_0_S1x2048)⟩,
     ⟨S16x2048, rep (extractStridedSlice S1x2048 ![2, 0] f slices_S8x2048_o2_0_S1x2048)⟩,
     ⟨S16x2048, rep (extractStridedSlice S1x2048 ![3, 0] f slices_S8x2048_o3_0_S1x2048)⟩,
     ⟨S16x2048, rep (extractStridedSlice S1x2048 ![4, 0] f slices_S8x2048_o4_0_S1x2048)⟩,
     ⟨S16x2048, rep (extractStridedSlice S1x2048 ![5, 0] f slices_S8x2048_o5_0_S1x2048)⟩,
     ⟨S16x2048, rep (extractStridedSlice S1x2048 ![6, 0] f slices_S8x2048_o6_0_S1x2048)⟩,
     ⟨S16x2048, rep (extractStridedSlice S1x2048 ![7, 0] f slices_S8x2048_o7_0_S1x2048)⟩]
    concatenates_S16x2048_S16x2048_S16x2048_S16x2048_S16x2048_S16x2048_S16x2048_S16x2048_S16x2048_S16x2048_S16x2048_S16x2048_S16x2048_S16x2048_S224x2048_d0

/-! ## Points 1 to 128: one block of sixteen points against all points -/

/-- Column `k` of the block of coordinates. -/
def colP (x : FVec F S16x3 .f32) (k : Fin 3) : FVec F S16x1 .f32 :=
  VecWindow.window x ![0, k.val] S16x1.size (by have := k.isLt; intro a; fin_cases a <;> simp [S16x3, S16x1] <;> omega)

/-- Column `k` of the block of frames. -/
def colN (x : FVec F S16x9 .f32) (k : Fin 9) : FVec F S16x1 .f32 :=
  VecWindow.window x ![0, k.val] S16x1.size (by have := k.isLt; intro a; fin_cases a <;> simp [S16x9, S16x1] <;> omega)

/-- Quantity `r` of the table, at the 256 points of chunk `b`. -/
def tile (d : FVec F S224x2048 .f32) (r : Fin 14) (b : Fin 8) : FVec F S16x256 .f32 :=
  VecWindow.window d ![16 * r.val, 256 * b.val] S16x256.size
    (by have := r.isLt; have := b.isLt; intro a; fin_cases a <;> simp [S224x2048, S16x256] <;> omega)

/-- A column laid beside itself 256 times. -/
def wide (v : FVec F S16x1 .f32) : FVec F S16x256 .f32 := broadcastTo S16x256 v broadcasts_S16x1_S16x256

/-- The difference in coordinate `k`, scaled. -/
def delta (x3 : FVec F S16x3 .f32) (d : FVec F S224x2048 .f32) (b : Fin 8) (k : Fin 3) : FVec F S16x256 .f32 :=
  subf (tile d ⟨k.val, by omega⟩ b) (wide (k0_pay23 (colP x3 k)))

/-- The squared distance. -/
def sqDist (x3 : FVec F S16x3 .f32) (d : FVec F S224x2048 .f32) (b : Fin 8) : FVec F S16x256 .f32 :=
  addf (addf (mulf (delta x3 d b 0) (delta x3 d b 0)) (mulf (delta x3 d b 1) (delta x3 d b 1)))
    (mulf (delta x3 d b 2) (delta x3 d b 2))

/-- Two less the product of the normals. -/
def turn (x4 : FVec F S16x9 .f32) (d : FVec F S224x2048 .f32) (b : Fin 8) : FVec F S16x256 .f32 :=
  subf (broadcast S16x256 (Scalar.ofBits .f32 0x40000000#32))
    (addf (addf (mulf (wide (k0_pay26 (colN x4 0))) (tile d 3 b)) (mulf (wide (k0_pay26 (colN x4 1))) (tile d 4 b)))
      (mulf (wide (k0_pay26 (colN x4 2))) (tile d 5 b)))

/-- The window weight. -/
def weight (x3 : FVec F S16x3 .f32) (x4 : FVec F S16x9 .f32) (d : FVec F S224x2048 .f32) (b : Fin 8) :
    FVec F S16x256 .f32 :=
  exp (subf (broadcast S16x256 (Scalar.ofBits .f32 0x00000000#32))
    (mulf (mulf (sqDist x3 d b) (turn x4 d b)) (turn x4 d b)))

/-- A frame vector against the difference: its three columns times the three coordinates, added. -/
def locOf (n0 n1 n2 : FVec F S16x1 .f32) (d0 d1 d2 : FVec F S16x256 .f32) : FVec F S16x256 .f32 :=
  addf (addf (mulf (wide n0) d0) (mulf (wide n1) d1)) (mulf (wide n2) d2)

/-- Local coordinate along the frame vector held in columns `p`, `q`, `r`. -/
def along (x3 : FVec F S16x3 .f32) (x4 : FVec F S16x9 .f32) (d : FVec F S224x2048 .f32) (b : Fin 8) (p q r : Fin 9) :
    FVec F S16x256 .f32 :=
  locOf (k0_pay26 (colN x4 p)) (k0_pay26 (colN x4 q)) (k0_pay26 (colN x4 r)) (delta x3 d b 0) (delta x3 d b 1) (delta x3 d b 2)

/-- Sixteen rows of ones. -/
def onesRow : FVec F S16x256 .bf16 := broadcast S16x256 (Scalar.ofBits .bf16 0x3F80#16)

/-- Three local coordinates and the ones, stacked. -/
def stack3 (u v w : FVec F S16x256 .f32) : FVec F S64x256 .bf16 :=
  concatenate S64x256 0
    [⟨S16x256, truncf .bf16 u⟩, ⟨S16x256, truncf .bf16 v⟩, ⟨S16x256, truncf .bf16 w⟩, ⟨S16x256, onesRow⟩]
    concatenates_S16x256_S16x256_S16x256_S16x256_S64x256_d0

/-- The stack of chunk `b`. -/
def stacked (x3 : FVec F S16x3 .f32) (x4 : FVec F S16x9 .f32) (d : FVec F S224x2048 .f32) (b : Fin 8) :
    FVec F S64x256 .bf16 :=
  stack3 (along x3 x4 d b 0 1 2) (along x3 x4 d b 3 4 5) (along x3 x4 d b 6 7 8)

/-- First filter layer. -/
def filt1 (w1 : FVec F S128x64 .bf16) (xs : FVec F S64x256 .bf16) : FVec F S128x256 .f32 :=
  maximumf (matmul dot_S128x64_S64x256_S128x256_1_0_0_1_n_n none w1 xs (constant S128x256 .f32 0x00000000#32))
    (broadcast S128x256 (Scalar.ofBits .f32 0x00000000#32))

/-- Second filter layer. -/
def filt2 (w2 : FVec F S128x144 .bf16) (y : FVec F S128x256 .f32) : FVec F S128x256 .f32 :=
  maximumf (matmul dot_S128x144_S144x256_S128x256_1_0_0_1_n_n none w2
      (concatenate S144x256 0 [⟨S128x256, truncf .bf16 y⟩, ⟨S16x256, onesRow⟩] concatenates_S128x256_S16x256_S144x256_d0)
      (constant S128x256 .f32 0x00000000#32))
    (broadcast S128x256 (Scalar.ofBits .f32 0x00000000#32))

/-- The filter of every channel on chunk `b`. -/
def filt (x3 : FVec F S16x3 .f32) (x4 : FVec F S16x9 .f32) (w1 : FVec F S128x64 .bf16) (w2 : FVec F S128x144 .bf16)
    (d : FVec F S224x2048 .f32) (b : Fin 8) : FVec F S128x256 .f32 :=
  filt2 (k0_pay36 w2) (filt1 (k0_pay35 w1) (stacked x3 x4 d b))

/-- What chunk `b` adds to channel `h`. -/
def term (x3 : FVec F S16x3 .f32) (x4 : FVec F S16x9 .f32) (w1 : FVec F S128x64 .bf16) (w2 : FVec F S128x144 .bf16)
    (d : FVec F S224x2048 .f32) (h b : Fin 8) : FVec F S16x256 .f32 :=
  mulf (mulf (weight x3 x4 d b) (extractStridedSlice S16x256 ![16 * h.val, 0] (filt x3 x4 w1 w2 d b)
    ⟨rfl, by have := h.isLt; intro a; fin_cases a <;> simp [S128x256, S16x256] <;> omega⟩)) (tile d ⟨6 + h.val, by omega⟩ b)

/-- Channel `h` after the first `n` chunks. -/
def accum (x3 : FVec F S16x3 .f32) (x4 : FVec F S16x9 .f32) (w1 : FVec F S128x64 .bf16) (w2 : FVec F S128x144 .bf16)
    (d : FVec F S224x2048 .f32) (h : Fin 8) : ℕ → FVec F S16x256 .f32
  | 0 => broadcast S16x256 (Scalar.ofBits .f32 0x00000000#32)
  | n + 1 => addf (accum x3 x4 w1 w2 d h n) (term x3 x4 w1 w2 d h (Fin.ofNat 8 n))

/-- The sum along the lanes, kept as a column. -/
def laneSum (v : FVec F S16x256 .f32) : FVec F S16x1 .f32 :=
  shapeCast S16x1 (multiReduction .add [1] S16 v 0x00000000#32 reduces_S16x256_S16 (.inl rfl) rfl) shapeCasts_S16_S16x1

/-- The block of convolution rows a point writes. -/
def pairBlock (x3 : FVec F S16x3 .f32) (x4 : FVec F S16x9 .f32) (w1 : FVec F S128x64 .bf16) (w2 : FVec F S128x144 .bf16)
    (d : FVec F S224x2048 .f32) : FVec F S16x8 .f32 :=
  concatenate S16x8 1
    [⟨S16x1, laneSum (accum x3 x4 w1 w2 d 0 8)⟩, ⟨S16x1, laneSum (accum x3 x4 w1 w2 d 1 8)⟩,
     ⟨S16x1, laneSum (accum x3 x4 w1 w2 d 2 8)⟩, ⟨S16x1, laneSum (accum x3 x4 w1 w2 d 3 8)⟩,
     ⟨S16x1, laneSum (accum x3 x4 w1 w2 d 4 8)⟩, ⟨S16x1, laneSum (accum x3 x4 w1 w2 d 5 8)⟩,
     ⟨S16x1, laneSum (accum x3 x4 w1 w2 d 6 8)⟩, ⟨S16x1, laneSum (accum x3 x4 w1 w2 d 7 8)⟩]
    concatenates_S16x1_S16x1_S16x1_S16x1_S16x1_S16x1_S16x1_S16x1_S16x8_d1

/-! ## Point 129: the output network -/

/-- The convolution rows, channels by points. -/
def convT (p : FVec F S2048x8 .f32) (eye : FVec F S8x8 .f32) : FVec F S8x2048 .f32 :=
  matmul dot_S8x8_S2048x8_S8x2048_1_1_0_0_n_n none eye p (constant S8x2048 .f32 0x00000000#32)

/-- First dense layer of the output network. -/
def outDense1 (x : FVec F S8x2048 .f32) (W : FVec F S16x8 .f32) (b : FVec F S16x1 .f32) : FVec F S16x2048 .f32 :=
  addf (matmul dot_S16x8_S8x2048_S16x2048_1_0_0_1_n_n none W x (constant S16x2048 .f32 0x00000000#32))
    (broadcastTo S16x2048 b broadcasts_S16x1_S16x2048)

/-- Second dense layer of the output network. -/
def outDense2 (x : FVec F S16x2048 .f32) (W : FVec F S16x16 .f32) (b : FVec F S16x1 .f32) : FVec F S16x2048 .f32 :=
  addf (matmul dot_S16x16_S16x2048_S16x2048_1_0_0_1_n_n none W x (constant S16x2048 .f32 0x00000000#32))
    (broadcastTo S16x2048 b broadcasts_S16x1_S16x2048)

/-- The mean of a group of four channels: the sum of its entries over 8192. -/
def mean4 (s : FVec F S4x2048 .f32) : F .f32 :=
  Scalar.divf (extractAt ![0, 0, 0] (shapeCast S1x1x1
    (multiReduction .add [1, 2] S1 (shapeCast S1x4x2048 s shapeCasts_S4x2048_S1x4x2048) 0x00000000#32 reduces_S1x4x2048_S1 (.inl rfl) rfl)
    shapeCasts_S1_S1x1x1) inpos_S1x1x1_p0_0_0) (Scalar.ofBits .f32 0x46000000#32)

/-- A group of four channels less its mean. -/
def centred4 (s : FVec F S4x2048 .f32) : FVec F S4x2048 .f32 := subf s (broadcast S4x2048 (mean4 s))

/-- A group of four channels, centred and divided by its deviation. -/
def norm4 (s : FVec F S4x2048 .f32) : FVec F S4x2048 .f32 :=
  divf (centred4 s) (broadcast S4x2048 (Scalar.sqrt
    (Scalar.addf (mean4 (mulf (centred4 s) (centred4 s))) (Scalar.ofBits .f32 0x3727C5AC#32))))

/-- Group normalisation of the output network, four groups of four channels. -/
def outNorm (x : FVec F S16x2048 .f32) (g be : FVec F S16x1 .f32) : FVec F S16x2048 .f32 :=
  addf (mulf (concatenate S16x2048 0
      [⟨S4x2048, norm4 (extractStridedSlice S4x2048 ![0, 0] x slices_S16x2048_o0_0_S4x2048)⟩,
       ⟨S4x2048, norm4 (extractStridedSlice S4x2048 ![4, 0] x slices_S16x2048_o4_0_S4x2048)⟩,
       ⟨S4x2048, norm4 (extractStridedSlice S4x2048 ![8, 0] x slices_S16x2048_o8_0_S4x2048)⟩,
       ⟨S4x2048, norm4 (extractStridedSlice S4x2048 ![12, 0] x slices_S16x2048_o12_0_S4x2048)⟩]
      concatenates_S4x2048_S4x2048_S4x2048_S4x2048_S16x2048_d0)
    (broadcastTo S16x2048 g broadcasts_S16x1_S16x2048)) (broadcastTo S16x2048 be broadcasts_S16x1_S16x2048)

/-- The output network, channels by points. -/
def outNet (x : FVec F S8x2048 .f32) (W1 : FVec F S16x8 .f32) (b1 : FVec F S16x1 .f32) (W2 : FVec F S16x16 .f32)
    (b2 g be : FVec F S16x1 .f32) : FVec F S16x2048 .f32 :=
  outNorm (leaky (outDense2 (leaky (outDense1 x W1 b1)) W2 b2)) g be

/-- The output network turned to points by channels. -/
def outT (x : FVec F S16x2048 .f32) (eye : FVec F S16x16 .f32) : FVec F S2048x16 .f32 :=
  matmul dot_S16x2048_S16x16_S2048x16_0_0_1_1_n_n none x eye (constant S2048x16 .f32 0x00000000#32)

end Cert.KernelIdeal.Hand
-- ==== Proof.KernelIdeal.Guards.lean ====
module

public import proofs.«01_k».proof.Proof.KernelIdeal.Blocks

/-! The three guards of the body, and the loads the runs meet. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The guard of point 0. -/
abbrev cond0_0 (i : grid0.Coords) : Prop :=
  (Scalar.cmpi .ne (Scalar.extui (Scalar.cmpi .eq (BitVec.ofNat 32 (i 0).val) 0#32)) 0#32) = 1#1

/-- The guard of points 1 to 128. -/
abbrev cond0_1 (i : grid0.Coords) : Prop := k0_cond2 i = 1#1

/-- The guard of point 129. -/
abbrev cond0_2 (i : grid0.Coords) : Prop := k0_cond3 i = 1#1

/-- A load of a whole memref reads its contents. -/
theorem load_whole {sp : Space} {s : Shape} {e : EltTy} {m : Memref sig .tc sp s e} (h : m.IsWhole) (X : Vec F s e)
    {off : Fin s.rank → ℕ} (inb : ∀ a, off a + s.size a ≤ s.size a) :
    m.view.readAt (Elt F) (Rect.unit off s.size inb).toLoadRect (h.unread (Val := Elt F) X) = X :=
  (View.readAt_full _ _ inb).trans (h.read_unread X)

/-- A load of a window of a whole memref reads that window of its contents. -/
theorem load_window {sp : Space} {s : Shape} {e : EltTy} {m : Memref sig .tc sp s e} (h : m.IsWhole) (X : Vec F s e)
    {off size : Fin s.rank → ℕ} (inb : ∀ a, off a + size a ≤ s.size a) :
    m.view.readAt (Elt F) (Rect.unit off size inb).toLoadRect (h.unread (Val := Elt F) X) = VecWindow.window X off size inb :=
  (View.readAt_unit _ _ inb rfl inb).trans (by rw [h.read_unread])

end Cert.KernelIdeal.Hand
-- ==== Proof.KernelIdeal.RunA.lean ====
module

public import proofs.«01_k».proof.Proof.KernelIdeal.Guards

/-! The body at point 0: the table of per-point features. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S2048x16 .f32) (harg1 : arg1.IsWhole)
  (arg2 : Memref sig .tc .vmem S2048x3 .f32) (harg2 : arg2.IsWhole)
  (arg3 : Memref sig .tc .vmem S2048x9 .f32) (harg3 : arg3.IsWhole)
  (arg4 : Memref sig .tc .vmem S16x3 .f32) (harg4 : arg4.IsWhole)
  (arg5 : Memref sig .tc .vmem S16x9 .f32) (harg5 : arg5.IsWhole)
  (arg6 : Memref sig .tc .vmem S3x3 .f32) (harg6 : arg6.IsWhole)
  (arg7 : Memref sig .tc .vmem S3x9 .f32) (harg7 : arg7.IsWhole)
  (arg8 : Memref sig .tc .vmem S8x8 .f32) (harg8 : arg8.IsWhole)
  (arg9 : Memref sig .tc .vmem S16x16 .f32) (harg9 : arg9.IsWhole)
  (arg10 : Memref sig .tc .vmem S8x16 .f32) (harg10 : arg10.IsWhole)
  (arg11 : Memref sig .tc .vmem S8x1 .f32) (harg11 : arg11.IsWhole)
  (arg12 : Memref sig .tc .vmem S8x8 .f32) (harg12 : arg12.IsWhole)
  (arg13 : Memref sig .tc .vmem S8x1 .f32) (harg13 : arg13.IsWhole)
  (arg14 : Memref sig .tc .vmem S8x1 .f32) (harg14 : arg14.IsWhole)
  (arg15 : Memref sig .tc .vmem S8x1 .f32) (harg15 : arg15.IsWhole)
  (arg16 : Memref sig .tc .vmem S128x64 .bf16) (harg16 : arg16.IsWhole)
  (arg17 : Memref sig .tc .vmem S128x144 .bf16) (harg17 : arg17.IsWhole)
  (arg18 : Memref sig .tc .vmem S16x8 .f32) (harg18 : arg18.IsWhole)
  (arg19 : Memref sig .tc .vmem S16x1 .f32) (harg19 : arg19.IsWhole)
  (arg20 : Memref sig .tc .vmem S16x16 .f32) (harg20 : arg20.IsWhole)
  (arg21 : Memref sig .tc .vmem S16x1 .f32) (harg21 : arg21.IsWhole)
  (arg22 : Memref sig .tc .vmem S16x1 .f32) (harg22 : arg22.IsWhole)
  (arg23 : Memref sig .tc .vmem S16x1 .f32) (harg23 : arg23.IsWhole)
  (arg24 : Memref sig .tc .vmem S2048x16 .f32) (harg24 : arg24.IsWhole)
  (arg25 : Memref sig .tc .vmem S224x2048 .f32) (harg25 : arg25.IsWhole)
  (arg26 : Memref sig .tc .vmem S2048x8 .f32) (harg26 : arg26.IsWhole)

set_option maxHeartbeats 0 in
/-- The body run at such a point: it reads the memrefs named, writes the one that changes, and leaves the others. -/
def runA (hc0 : cond0_0 i) (hc1 : ¬cond0_1 i) (hc2 : ¬cond0_2 i)
    (x0 : Vec F S2048x16 .f32) (x1 : Vec F S2048x3 .f32) (x2 : Vec F S2048x9 .f32) (x5 : Vec F S3x3 .f32) (x6 : Vec F S3x9 .f32) (x9 : Vec F S8x16 .f32) (x10 : Vec F S8x1 .f32) (x11 : Vec F S8x8 .f32) (x12 : Vec F S8x1 .f32) (x13 : Vec F S8x1 .f32) (x14 : Vec F S8x1 .f32) (d0 : Vec F S224x2048 .f32) :
  { L : List (View.Piece (Elt F) S224x2048 .f32) // ∀ (E : Set ℕ) (K : PUnit → sProp 𝕄),
   iprop(owns (c : Thread nD τ) arg1 fullShare x0
      ∗ owns (c : Thread nD τ) arg2 fullShare x1
      ∗ owns (c : Thread nD τ) arg3 fullShare x2
      ∗ owns (c : Thread nD τ) arg6 fullShare x5
      ∗ owns (c : Thread nD τ) arg7 fullShare x6
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ owns (c : Thread nD τ) arg15 fullShare x14
      ∗ owns (c : Thread nD τ) arg25 fullShare d0
     ∗ (iprop(owns (c : Thread nD τ) arg1 fullShare x0
      ∗ owns (c : Thread nD τ) arg2 fullShare x1
      ∗ owns (c : Thread nD τ) arg3 fullShare x2
      ∗ owns (c : Thread nD τ) arg6 fullShare x5
      ∗ owns (c : Thread nD τ) arg7 fullShare x6
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ owns (c : Thread nD τ) arg15 fullShare x14
      ∗ (arg25.view.loc (c : Thread nD τ) ↦[arg25.view.set]{fullShare}
          arg25.view.writes (Elt F) (harg25.unread (Val := Elt F) d0) L)) -∗ K ⟨⟩))
    ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    unfold owns
    iintro ⟨⟨%f0, %hf0, H0⟩, ⟨%f1, %hf1, H1⟩, ⟨%f2, %hf2, H2⟩, ⟨%f5, %hf5, H5⟩, ⟨%f6, %hf6, H6⟩, ⟨%f9, %hf9, H9⟩, ⟨%f10, %hf10, H10⟩, ⟨%f11, %hf11, H11⟩, ⟨%f12, %hf12, H12⟩, ⟨%f13, %hf13, H13⟩, ⟨%f14, %hf14, H14⟩, ⟨%f24, %hf24, H24⟩, Hk⟩
    obtain rfl := harg1.eq_unread hf0; obtain rfl := harg2.eq_unread hf1; obtain rfl := harg3.eq_unread hf2; obtain rfl := harg6.eq_unread hf5; obtain rfl := harg7.eq_unread hf6; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg25.eq_unread hf24
    simp only [cc0__fused_body_eq_skeleton]; unfold cc0__fused_body_skel
    simp only [k0_part1_eq_skeleton, k0_part2_eq_skeleton, k0_part3_eq_skeleton]
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H5]
    · iexists _; isplitr; · ipureintro; exact harg6.read_unread _
      iexact H5
    isplitl [H6]
    · iexists _; isplitr; · ipureintro; exact harg7.read_unread _
      iexact H6
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexact H24

end Cert.KernelIdeal.Hand
-- ==== Proof.KernelIdeal.RunAValue.lean ====
module

public import proofs.«01_k».proof.Proof.KernelIdeal.RunA

/-! What the body writes at point 0. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S2048x16 .f32) (harg1 : arg1.IsWhole)
  (arg2 : Memref sig .tc .vmem S2048x3 .f32) (harg2 : arg2.IsWhole)
  (arg3 : Memref sig .tc .vmem S2048x9 .f32) (harg3 : arg3.IsWhole)
  (arg4 : Memref sig .tc .vmem S16x3 .f32) (harg4 : arg4.IsWhole)
  (arg5 : Memref sig .tc .vmem S16x9 .f32) (harg5 : arg5.IsWhole)
  (arg6 : Memref sig .tc .vmem S3x3 .f32) (harg6 : arg6.IsWhole)
  (arg7 : Memref sig .tc .vmem S3x9 .f32) (harg7 : arg7.IsWhole)
  (arg8 : Memref sig .tc .vmem S8x8 .f32) (harg8 : arg8.IsWhole)
  (arg9 : Memref sig .tc .vmem S16x16 .f32) (harg9 : arg9.IsWhole)
  (arg10 : Memref sig .tc .vmem S8x16 .f32) (harg10 : arg10.IsWhole)
  (arg11 : Memref sig .tc .vmem S8x1 .f32) (harg11 : arg11.IsWhole)
  (arg12 : Memref sig .tc .vmem S8x8 .f32) (harg12 : arg12.IsWhole)
  (arg13 : Memref sig .tc .vmem S8x1 .f32) (harg13 : arg13.IsWhole)
  (arg14 : Memref sig .tc .vmem S8x1 .f32) (harg14 : arg14.IsWhole)
  (arg15 : Memref sig .tc .vmem S8x1 .f32) (harg15 : arg15.IsWhole)
  (arg16 : Memref sig .tc .vmem S128x64 .bf16) (harg16 : arg16.IsWhole)
  (arg17 : Memref sig .tc .vmem S128x144 .bf16) (harg17 : arg17.IsWhole)
  (arg18 : Memref sig .tc .vmem S16x8 .f32) (harg18 : arg18.IsWhole)
  (arg19 : Memref sig .tc .vmem S16x1 .f32) (harg19 : arg19.IsWhole)
  (arg20 : Memref sig .tc .vmem S16x16 .f32) (harg20 : arg20.IsWhole)
  (arg21 : Memref sig .tc .vmem S16x1 .f32) (harg21 : arg21.IsWhole)
  (arg22 : Memref sig .tc .vmem S16x1 .f32) (harg22 : arg22.IsWhole)
  (arg23 : Memref sig .tc .vmem S16x1 .f32) (harg23 : arg23.IsWhole)
  (arg24 : Memref sig .tc .vmem S2048x16 .f32) (harg24 : arg24.IsWhole)
  (arg25 : Memref sig .tc .vmem S224x2048 .f32) (harg25 : arg25.IsWhole)
  (arg26 : Memref sig .tc .vmem S2048x8 .f32) (harg26 : arg26.IsWhole)

set_option maxHeartbeats 0 in
/-- What the run writes. -/
theorem runA_list (hc0 : cond0_0 i) (hc1 : ¬cond0_1 i) (hc2 : ¬cond0_2 i)
    (x0 : Vec F S2048x16 .f32) (x1 : Vec F S2048x3 .f32) (x2 : Vec F S2048x9 .f32) (x5 : Vec F S3x3 .f32) (x6 : Vec F S3x9 .f32) (x9 : Vec F S8x16 .f32) (x10 : Vec F S8x1 .f32) (x11 : Vec F S8x8 .f32) (x12 : Vec F S8x1 .f32) (x13 : Vec F S8x1 .f32) (x14 : Vec F S8x1 .f32) (d0 : Vec F S224x2048 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x5 x6 x9 x10 x11 x12 x13 x14 d0).1
      = [⟨Rect.unit ![0, 0] S224x2048.size inb_S224x2048_S224x2048_0_0, table (ptsT x1 x5) (nrmT x2 x6) (inNet x0 x9 x10 x11 x12 x13 x14)⟩] := by
  have e : ∀ (a b c' d' e' : _), k0_pay4 (F := F) a b c' d' e' = leaky (inDense2 (leaky (inDense1 b a c')) d' e') := by
    intros; simp only [k0_pay4, shapeCast_self]; rfl
  have ex : ∀ (a b : _), k0_pay17 (F := F) a b = ptsT b a := by
    intros; simp only [k0_pay17, shapeCast_self]; rfl
  have en : ∀ (a b : _), k0_pay18 (F := F) a b = nrmT b a := by
    intros; simp only [k0_pay18, shapeCast_self]; rfl
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15,
    load_whole harg1, load_whole harg2, load_whole harg3, load_whole harg6, load_whole harg7, load_whole harg10,
    load_whole harg11, load_whole harg12, load_whole harg13, load_whole harg14, load_whole harg15]
  simp only [k0_pay7, k0_pay8, k0_pay9, k0_pay19, k0_pay20, k0_pay21, k0_pay22, e, ex, en]
  have eN : ∀ (v : FVec F S8x2048 .f32), k0_pay16 v (k0_pay5 x13) (k0_pay6 x14)
      (k0_pay10 (extractStridedSlice S2x2048 ![0, 0] v slices_S8x2048_o0_0_S2x2048)
        (mean2 (extractStridedSlice S2x2048 ![0, 0] v slices_S8x2048_o0_0_S2x2048))
        (shapeCast S1x2x2048 (mulf (centred2 (extractStridedSlice S2x2048 ![0, 0] v slices_S8x2048_o0_0_S2x2048))
          (centred2 (extractStridedSlice S2x2048 ![0, 0] v slices_S8x2048_o0_0_S2x2048))) shapeCasts_S2x2048_S1x2x2048))
      (k0_pay11 v) (k0_pay14 v) (k0_pay15 v) = inNorm v x13 x14 := by
    intro v; simp only [k0_pay5, k0_pay6, k0_pay10, k0_pay11, k0_pay14, k0_pay13, k0_pay12, k0_pay15, k0_pay16, shapeCast_self]
    rfl
  have eT : ∀ (x n : FVec F S3x2048 .f32) (f : FVec F S8x2048 .f32), k0_pay1 f n
      (extractStridedSlice S1x2048 ![0, 0] x slices_S3x2048_o0_0_S1x2048) (extractStridedSlice S1x2048 ![1, 0] x slices_S3x2048_o1_0_S1x2048)
      (extractStridedSlice S1x2048 ![2, 0] x slices_S3x2048_o2_0_S1x2048) (extractStridedSlice S1x2048 ![0, 0] n slices_S3x2048_o0_0_S1x2048) = table x n f := by
    intros; simp only [k0_pay1, shapeCast_self]; rfl
  rw [← eT, inNet, ← eN]
  rfl

/-- The contents the run leaves. -/
theorem runA_read (hc0 : cond0_0 i) (hc1 : ¬cond0_1 i) (hc2 : ¬cond0_2 i)
    (x0 : Vec F S2048x16 .f32) (x1 : Vec F S2048x3 .f32) (x2 : Vec F S2048x9 .f32) (x5 : Vec F S3x3 .f32) (x6 : Vec F S3x9 .f32) (x9 : Vec F S8x16 .f32) (x10 : Vec F S8x1 .f32) (x11 : Vec F S8x8 .f32) (x12 : Vec F S8x1 .f32) (x13 : Vec F S8x1 .f32) (x14 : Vec F S8x1 .f32) (d0 : Vec F S224x2048 .f32) :
    arg25.view.read (Elt F) (arg25.view.writes (Elt F) (harg25.unread (Val := Elt F) d0)
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x5 x6 x9 x10 x11 x12 x13 x14 d0).1)
      = table (ptsT x1 x5) (nrmT x2 x6) (inNet x0 x9 x10 x11 x12 x13 x14) := by
  rw [runA_list]; exact View.read_writes_full _ _ _ _ _

end Cert.KernelIdeal.Hand
-- ==== Proof.KernelIdeal.RunB.lean ====
module

public import proofs.«01_k».proof.Proof.KernelIdeal.Guards

/-! The body at points 1 to 128: a block of sixteen points against all points. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S2048x16 .f32) (harg1 : arg1.IsWhole)
  (arg2 : Memref sig .tc .vmem S2048x3 .f32) (harg2 : arg2.IsWhole)
  (arg3 : Memref sig .tc .vmem S2048x9 .f32) (harg3 : arg3.IsWhole)
  (arg4 : Memref sig .tc .vmem S16x3 .f32) (harg4 : arg4.IsWhole)
  (arg5 : Memref sig .tc .vmem S16x9 .f32) (harg5 : arg5.IsWhole)
  (arg6 : Memref sig .tc .vmem S3x3 .f32) (harg6 : arg6.IsWhole)
  (arg7 : Memref sig .tc .vmem S3x9 .f32) (harg7 : arg7.IsWhole)
  (arg8 : Memref sig .tc .vmem S8x8 .f32) (harg8 : arg8.IsWhole)
  (arg9 : Memref sig .tc .vmem S16x16 .f32) (harg9 : arg9.IsWhole)
  (arg10 : Memref sig .tc .vmem S8x16 .f32) (harg10 : arg10.IsWhole)
  (arg11 : Memref sig .tc .vmem S8x1 .f32) (harg11 : arg11.IsWhole)
  (arg12 : Memref sig .tc .vmem S8x8 .f32) (harg12 : arg12.IsWhole)
  (arg13 : Memref sig .tc .vmem S8x1 .f32) (harg13 : arg13.IsWhole)
  (arg14 : Memref sig .tc .vmem S8x1 .f32) (harg14 : arg14.IsWhole)
  (arg15 : Memref sig .tc .vmem S8x1 .f32) (harg15 : arg15.IsWhole)
  (arg16 : Memref sig .tc .vmem S128x64 .bf16) (harg16 : arg16.IsWhole)
  (arg17 : Memref sig .tc .vmem S128x144 .bf16) (harg17 : arg17.IsWhole)
  (arg18 : Memref sig .tc .vmem S16x8 .f32) (harg18 : arg18.IsWhole)
  (arg19 : Memref sig .tc .vmem S16x1 .f32) (harg19 : arg19.IsWhole)
  (arg20 : Memref sig .tc .vmem S16x16 .f32) (harg20 : arg20.IsWhole)
  (arg21 : Memref sig .tc .vmem S16x1 .f32) (harg21 : arg21.IsWhole)
  (arg22 : Memref sig .tc .vmem S16x1 .f32) (harg22 : arg22.IsWhole)
  (arg23 : Memref sig .tc .vmem S16x1 .f32) (harg23 : arg23.IsWhole)
  (arg24 : Memref sig .tc .vmem S2048x16 .f32) (harg24 : arg24.IsWhole)
  (arg25 : Memref sig .tc .vmem S224x2048 .f32) (harg25 : arg25.IsWhole)
  (arg26 : Memref sig .tc .vmem S2048x8 .f32) (harg26 : arg26.IsWhole)

set_option maxHeartbeats 0 in
/-- The body run at such a point: it reads the memrefs named, writes the one that changes, and leaves the others. -/
def runB (hc0 : ¬cond0_0 i) (hc1 : cond0_1 i) (hc2 : ¬cond0_2 i)
    (x3 : Vec F S16x3 .f32) (x4 : Vec F S16x9 .f32) (x15 : Vec F S128x64 .bf16) (x16 : Vec F S128x144 .bf16) (d0 : Vec F S224x2048 .f32) (d1 : Vec F S2048x8 .f32) :
  { L : List (View.Piece (Elt F) S2048x8 .f32) // ∀ (E : Set ℕ) (K : PUnit → sProp 𝕄),
   iprop(owns (c : Thread nD τ) arg4 fullShare x3
      ∗ owns (c : Thread nD τ) arg5 fullShare x4
      ∗ owns (c : Thread nD τ) arg16 fullShare x15
      ∗ owns (c : Thread nD τ) arg17 fullShare x16
      ∗ owns (c : Thread nD τ) arg25 fullShare d0
      ∗ owns (c : Thread nD τ) arg26 fullShare d1
     ∗ (iprop(owns (c : Thread nD τ) arg4 fullShare x3
      ∗ owns (c : Thread nD τ) arg5 fullShare x4
      ∗ owns (c : Thread nD τ) arg16 fullShare x15
      ∗ owns (c : Thread nD τ) arg17 fullShare x16
      ∗ owns (c : Thread nD τ) arg25 fullShare d0
      ∗ (arg26.view.loc (c : Thread nD τ) ↦[arg26.view.set]{fullShare}
          arg26.view.writes (Elt F) (harg26.unread (Val := Elt F) d1) L)) -∗ K ⟨⟩))
    ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    unfold owns
    iintro ⟨⟨%f3, %hf3, H3⟩, ⟨%f4, %hf4, H4⟩, ⟨%f15, %hf15, H15⟩, ⟨%f16, %hf16, H16⟩, ⟨%f24, %hf24, H24⟩, ⟨%f25, %hf25, H25⟩, Hk⟩
    obtain rfl := harg4.eq_unread hf3; obtain rfl := harg5.eq_unread hf4; obtain rfl := harg16.eq_unread hf15; obtain rfl := harg17.eq_unread hf16; obtain rfl := harg25.eq_unread hf24; obtain rfl := harg26.eq_unread hf25
    simp only [cc0__fused_body_eq_skeleton]; unfold cc0__fused_body_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    sl_exec (disch := first | sl_exact hc0 | sl_exact hc1 | sl_exact hc2)
    sl_step
    iapply Hk
    isplitl [H3]
    · iexists _; isplitr; · ipureintro; exact harg4.read_unread _
      iexact H3
    isplitl [H4]
    · iexists _; isplitr; · ipureintro; exact harg5.read_unread _
      iexact H4
    isplitl [H15]
    · iexists _; isplitr; · ipureintro; exact harg16.read_unread _
      iexact H15
    isplitl [H16]
    · iexists _; isplitr; · ipureintro; exact harg17.read_unread _
      iexact H16
    isplitl [H24]
    · iexists _; isplitr; · ipureintro; exact harg25.read_unread _
      iexact H24
    iexact H25

end Cert.KernelIdeal.Hand
-- ==== Proof.KernelIdeal.RunBValue.lean ====
module

public import proofs.«01_k».proof.Proof.KernelIdeal.RunB

/-! What the body writes at points 1 to 128. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S2048x16 .f32) (harg1 : arg1.IsWhole)
  (arg2 : Memref sig .tc .vmem S2048x3 .f32) (harg2 : arg2.IsWhole)
  (arg3 : Memref sig .tc .vmem S2048x9 .f32) (harg3 : arg3.IsWhole)
  (arg4 : Memref sig .tc .vmem S16x3 .f32) (harg4 : arg4.IsWhole)
  (arg5 : Memref sig .tc .vmem S16x9 .f32) (harg5 : arg5.IsWhole)
  (arg6 : Memref sig .tc .vmem S3x3 .f32) (harg6 : arg6.IsWhole)
  (arg7 : Memref sig .tc .vmem S3x9 .f32) (harg7 : arg7.IsWhole)
  (arg8 : Memref sig .tc .vmem S8x8 .f32) (harg8 : arg8.IsWhole)
  (arg9 : Memref sig .tc .vmem S16x16 .f32) (harg9 : arg9.IsWhole)
  (arg10 : Memref sig .tc .vmem S8x16 .f32) (harg10 : arg10.IsWhole)
  (arg11 : Memref sig .tc .vmem S8x1 .f32) (harg11 : arg11.IsWhole)
  (arg12 : Memref sig .tc .vmem S8x8 .f32) (harg12 : arg12.IsWhole)
  (arg13 : Memref sig .tc .vmem S8x1 .f32) (harg13 : arg13.IsWhole)
  (arg14 : Memref sig .tc .vmem S8x1 .f32) (harg14 : arg14.IsWhole)
  (arg15 : Memref sig .tc .vmem S8x1 .f32) (harg15 : arg15.IsWhole)
  (arg16 : Memref sig .tc .vmem S128x64 .bf16) (harg16 : arg16.IsWhole)
  (arg17 : Memref sig .tc .vmem S128x144 .bf16) (harg17 : arg17.IsWhole)
  (arg18 : Memref sig .tc .vmem S16x8 .f32) (harg18 : arg18.IsWhole)
  (arg19 : Memref sig .tc .vmem S16x1 .f32) (harg19 : arg19.IsWhole)
  (arg20 : Memref sig .tc .vmem S16x16 .f32) (harg20 : arg20.IsWhole)
  (arg21 : Memref sig .tc .vmem S16x1 .f32) (harg21 : arg21.IsWhole)
  (arg22 : Memref sig .tc .vmem S16x1 .f32) (harg22 : arg22.IsWhole)
  (arg23 : Memref sig .tc .vmem S16x1 .f32) (harg23 : arg23.IsWhole)
  (arg24 : Memref sig .tc .vmem S2048x16 .f32) (harg24 : arg24.IsWhole)
  (arg25 : Memref sig .tc .vmem S224x2048 .f32) (harg25 : arg25.IsWhole)
  (arg26 : Memref sig .tc .vmem S2048x8 .f32) (harg26 : arg26.IsWhole)

set_option maxHeartbeats 0 in
/-- What the run writes. -/
theorem runB_list (hc0 : ¬cond0_0 i) (hc1 : cond0_1 i) (hc2 : ¬cond0_2 i)
    (x3 : Vec F S16x3 .f32) (x4 : Vec F S16x9 .f32) (x15 : Vec F S128x64 .bf16) (x16 : Vec F S128x144 .bf16) (d0 : Vec F S224x2048 .f32) (d1 : Vec F S2048x8 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x3 x4 x15 x16 d0 d1).1
      = [⟨Rect.unit (k0_off1 i) S16x8.size (k0_off1_inb i hc1), pairBlock x3 x4 x15 x16 d0⟩] := by
  have s0 : runB.sl.v105 arg4 harg4 arg5 harg5 arg25 harg25 x3 x4 d0 = stack3 (runB.sl.v85 arg4 harg4 arg5 harg5 arg25 harg25 x3 x4 d0) (runB.sl.v93 arg4 harg4 arg5 harg5 arg25 harg25 x3 x4 d0) (runB.sl.v101 arg4 harg4 arg5 harg5 arg25 harg25 x3 x4 d0) := rfl
  have f0 : runB.sl.v554 arg4 harg4 arg5 harg5 arg16 harg16 arg17 harg17 arg25 harg25 x3 x4 x15 x16 d0 = filt2 (runB.sl.v44 arg17 harg17 x16) (filt1 (runB.sl.v42 arg16 harg16 x15) (runB.sl.v105 arg4 harg4 arg5 harg5 arg25 harg25 x3 x4 d0)) := rfl
  have s1 : runB.sl.v165 arg4 harg4 arg5 harg5 arg25 harg25 x3 x4 d0 = stack3 (runB.sl.v145 arg4 harg4 arg5 harg5 arg25 harg25 x3 x4 d0) (runB.sl.v153 arg4 harg4 arg5 harg5 arg25 harg25 x3 x4 d0) (runB.sl.v161 arg4 harg4 arg5 harg5 arg25 harg25 x3 x4 d0) := rfl
  have f1 : runB.sl.v559 arg4 harg4 arg5 harg5 arg16 harg16 arg17 harg17 arg25 harg25 x3 x4 x15 x16 d0 = filt2 (runB.sl.v44 arg17 harg17 x16) (filt1 (runB.sl.v42 arg16 harg16 x15) (runB.sl.v165 arg4 harg4 arg5 harg5 arg25 harg25 x3 x4 d0)) := rfl
  have s2 : runB.sl.v225 arg4 harg4 arg5 harg5 arg25 harg25 x3 x4 d0 = stack3 (runB.sl.v205 arg4 harg4 arg5 harg5 arg25 harg25 x3 x4 d0) (runB.sl.v213 arg4 harg4 arg5 harg5 arg25 harg25 x3 x4 d0) (runB.sl.v221 arg4 harg4 arg5 harg5 arg25 harg25 x3 x4 d0) := rfl
  have f2 : runB.sl.v564 arg4 harg4 arg5 harg5 arg16 harg16 arg17 harg17 arg25 harg25 x3 x4 x15 x16 d0 = filt2 (runB.sl.v44 arg17 harg17 x16) (filt1 (runB.sl.v42 arg16 harg16 x15) (runB.sl.v225 arg4 harg4 arg5 harg5 arg25 harg25 x3 x4 d0)) := rfl
  have s3 : runB.sl.v285 arg4 harg4 arg5 harg5 arg25 harg25 x3 x4 d0 = stack3 (runB.sl.v265 arg4 harg4 arg5 harg5 arg25 harg25 x3 x4 d0) (runB.sl.v273 arg4 harg4 arg5 harg5 arg25 harg25 x3 x4 d0) (runB.sl.v281 arg4 harg4 arg5 harg5 arg25 harg25 x3 x4 d0) := rfl
  have f3 : runB.sl.v569 arg4 harg4 arg5 harg5 arg16 harg16 arg17 harg17 arg25 harg25 x3 x4 x15 x16 d0 = filt2 (runB.sl.v44 arg17 harg17 x16) (filt1 (runB.sl.v42 arg16 harg16 x15) (runB.sl.v285 arg4 harg4 arg5 harg5 arg25 harg25 x3 x4 d0)) := rfl
  have s4 : runB.sl.v345 arg4 harg4 arg5 harg5 arg25 harg25 x3 x4 d0 = stack3 (runB.sl.v325 arg4 harg4 arg5 harg5 arg25 harg25 x3 x4 d0) (runB.sl.v333 arg4 harg4 arg5 harg5 arg25 harg25 x3 x4 d0) (runB.sl.v341 arg4 harg4 arg5 harg5 arg25 harg25 x3 x4 d0) := rfl
  have f4 : runB.sl.v574 arg4 harg4 arg5 harg5 arg16 harg16 arg17 harg17 arg25 harg25 x3 x4 x15 x16 d0 = filt2 (runB.sl.v44 arg17 harg17 x16) (filt1 (runB.sl.v42 arg16 harg16 x15) (runB.sl.v345 arg4 harg4 arg5 harg5 arg25 harg25 x3 x4 d0)) := rfl
  have s5 : runB.sl.v405 arg4 harg4 arg5 harg5 arg25 harg25 x3 x4 d0 = stack3 (runB.sl.v385 arg4 harg4 arg5 harg5 arg25 harg25 x3 x4 d0) (runB.sl.v393 arg4 harg4 arg5 harg5 arg25 harg25 x3 x4 d0) (runB.sl.v401 arg4 harg4 arg5 harg5 arg25 harg25 x3 x4 d0) := rfl
  have f5 : runB.sl.v579 arg4 harg4 arg5 harg5 arg16 harg16 arg17 harg17 arg25 harg25 x3 x4 x15 x16 d0 = filt2 (runB.sl.v44 arg17 harg17 x16) (filt1 (runB.sl.v42 arg16 harg16 x15) (runB.sl.v405 arg4 harg4 arg5 harg5 arg25 harg25 x3 x4 d0)) := rfl
  have s6 : runB.sl.v465 arg4 harg4 arg5 harg5 arg25 harg25 x3 x4 d0 = stack3 (runB.sl.v445 arg4 harg4 arg5 harg5 arg25 harg25 x3 x4 d0) (runB.sl.v453 arg4 harg4 arg5 harg5 arg25 harg25 x3 x4 d0) (runB.sl.v461 arg4 harg4 arg5 harg5 arg25 harg25 x3 x4 d0) := rfl
  have f6 : runB.sl.v584 arg4 harg4 arg5 harg5 arg16 harg16 arg17 harg17 arg25 harg25 x3 x4 x15 x16 d0 = filt2 (runB.sl.v44 arg17 harg17 x16) (filt1 (runB.sl.v42 arg16 harg16 x15) (runB.sl.v465 arg4 harg4 arg5 harg5 arg25 harg25 x3 x4 d0)) := rfl
  have s7 : runB.sl.v525 arg4 harg4 arg5 harg5 arg25 harg25 x3 x4 d0 = stack3 (runB.sl.v505 arg4 harg4 arg5 harg5 arg25 harg25 x3 x4 d0) (runB.sl.v513 arg4 harg4 arg5 harg5 arg25 harg25 x3 x4 d0) (runB.sl.v521 arg4 harg4 arg5 harg5 arg25 harg25 x3 x4 d0) := rfl
  have f7 : runB.sl.v589 arg4 harg4 arg5 harg5 arg16 harg16 arg17 harg17 arg25 harg25 x3 x4 x15 x16 d0 = filt2 (runB.sl.v44 arg17 harg17 x16) (filt1 (runB.sl.v42 arg16 harg16 x15) (runB.sl.v525 arg4 harg4 arg5 harg5 arg25 harg25 x3 x4 d0)) := rfl
  have last : ∀ (a b c' d e f g h : FVec F S16x256 .f32), k0_pay2 h (laneSum a) (laneSum b) (laneSum c') (laneSum d) (laneSum e) (laneSum f)
      (laneSum g) = concatenate S16x8 1 [⟨S16x1, laneSum a⟩, ⟨S16x1, laneSum b⟩, ⟨S16x1, laneSum c'⟩, ⟨S16x1, laneSum d⟩,
        ⟨S16x1, laneSum e⟩, ⟨S16x1, laneSum f⟩, ⟨S16x1, laneSum g⟩, ⟨S16x1, laneSum h⟩]
        concatenates_S16x1_S16x1_S16x1_S16x1_S16x1_S16x1_S16x1_S16x1_S16x8_d1 := by
    intros; simp only [k0_pay2, shapeCast_self]; rfl
  unfold runB
  dsimp only
  rw [pairBlock, ← last]
  simp only [
    runB.sl.cst_125, runB.sl.cst_24, runB.sl.cst_32, runB.sl.cst_33, runB.sl.r, runB.sl.r_1, runB.sl.r_10, runB.sl.r_11, runB.sl.r_12, runB.sl.r_13,
    runB.sl.r_14, runB.sl.r_15, runB.sl.r_16, runB.sl.r_17, runB.sl.r_18, runB.sl.r_19, runB.sl.r_2, runB.sl.r_20, runB.sl.r_21, runB.sl.r_22,
    runB.sl.r_23, runB.sl.r_24, runB.sl.r_25, runB.sl.r_26, runB.sl.r_27, runB.sl.r_28, runB.sl.r_29, runB.sl.r_3, runB.sl.r_30, runB.sl.r_31,
    runB.sl.r_32, runB.sl.r_33, runB.sl.r_4, runB.sl.r_5, runB.sl.r_6, runB.sl.r_7, runB.sl.r_8, runB.sl.r_9, runB.sl.v100, runB.sl.v101,
    runB.sl.v113, runB.sl.v115, runB.sl.v117, runB.sl.v119, runB.sl.v121, runB.sl.v122, runB.sl.v124, runB.sl.v125, runB.sl.v126, runB.sl.v127,
    runB.sl.v128, runB.sl.v129, runB.sl.v130, runB.sl.v132, runB.sl.v133, runB.sl.v134, runB.sl.v136, runB.sl.v137, runB.sl.v139, runB.sl.v141,
    runB.sl.v142, runB.sl.v144, runB.sl.v145, runB.sl.v147, runB.sl.v149, runB.sl.v150, runB.sl.v152, runB.sl.v153, runB.sl.v155, runB.sl.v157,
    runB.sl.v158, runB.sl.v160, runB.sl.v161, runB.sl.v173, runB.sl.v175, runB.sl.v177, runB.sl.v179, runB.sl.v181, runB.sl.v182, runB.sl.v184,
    runB.sl.v185, runB.sl.v186, runB.sl.v187, runB.sl.v188, runB.sl.v189, runB.sl.v190, runB.sl.v192, runB.sl.v193, runB.sl.v194, runB.sl.v196,
    runB.sl.v197, runB.sl.v199, runB.sl.v201, runB.sl.v202, runB.sl.v204, runB.sl.v205, runB.sl.v207, runB.sl.v209, runB.sl.v210, runB.sl.v212,
    runB.sl.v213, runB.sl.v215, runB.sl.v217, runB.sl.v218, runB.sl.v220, runB.sl.v221, runB.sl.v233, runB.sl.v235, runB.sl.v237, runB.sl.v239,
    runB.sl.v241, runB.sl.v242, runB.sl.v244, runB.sl.v245, runB.sl.v246, runB.sl.v247, runB.sl.v248, runB.sl.v249, runB.sl.v250, runB.sl.v252,
    runB.sl.v253, runB.sl.v254, runB.sl.v256, runB.sl.v257, runB.sl.v259, runB.sl.v261, runB.sl.v262, runB.sl.v264, runB.sl.v265, runB.sl.v267,
    runB.sl.v269, runB.sl.v270, runB.sl.v272, runB.sl.v273, runB.sl.v275, runB.sl.v277, runB.sl.v278, runB.sl.v280, runB.sl.v281, runB.sl.v293,
    runB.sl.v295, runB.sl.v297, runB.sl.v299, runB.sl.v301, runB.sl.v302, runB.sl.v304, runB.sl.v305, runB.sl.v306, runB.sl.v307, runB.sl.v308,
    runB.sl.v309, runB.sl.v310, runB.sl.v312, runB.sl.v313, runB.sl.v314, runB.sl.v316, runB.sl.v317, runB.sl.v319, runB.sl.v321, runB.sl.v322,
    runB.sl.v324, runB.sl.v325, runB.sl.v327, runB.sl.v329, runB.sl.v330, runB.sl.v332, runB.sl.v333, runB.sl.v335, runB.sl.v337, runB.sl.v338,
    runB.sl.v340, runB.sl.v341, runB.sl.v353, runB.sl.v355, runB.sl.v357, runB.sl.v359, runB.sl.v361, runB.sl.v362, runB.sl.v364, runB.sl.v365,
    runB.sl.v366, runB.sl.v367, runB.sl.v368, runB.sl.v369, runB.sl.v370, runB.sl.v372, runB.sl.v373, runB.sl.v374, runB.sl.v376, runB.sl.v377,
    runB.sl.v379, runB.sl.v381, runB.sl.v382, runB.sl.v384, runB.sl.v385, runB.sl.v387, runB.sl.v389, runB.sl.v390, runB.sl.v392, runB.sl.v393,
    runB.sl.v395, runB.sl.v397, runB.sl.v398, runB.sl.v400, runB.sl.v401, runB.sl.v413, runB.sl.v415, runB.sl.v417, runB.sl.v419, runB.sl.v42,
    runB.sl.v421, runB.sl.v422, runB.sl.v424, runB.sl.v425, runB.sl.v426, runB.sl.v427, runB.sl.v428, runB.sl.v429, runB.sl.v430, runB.sl.v432,
    runB.sl.v433, runB.sl.v434, runB.sl.v436, runB.sl.v437, runB.sl.v439, runB.sl.v44, runB.sl.v441, runB.sl.v442, runB.sl.v444, runB.sl.v445,
    runB.sl.v447, runB.sl.v449, runB.sl.v45, runB.sl.v450, runB.sl.v452, runB.sl.v453, runB.sl.v455, runB.sl.v457, runB.sl.v458, runB.sl.v460,
    runB.sl.v461, runB.sl.v473, runB.sl.v475, runB.sl.v477, runB.sl.v479, runB.sl.v481, runB.sl.v482, runB.sl.v484, runB.sl.v485, runB.sl.v486,
    runB.sl.v487, runB.sl.v488, runB.sl.v489, runB.sl.v490, runB.sl.v492, runB.sl.v493, runB.sl.v494, runB.sl.v496, runB.sl.v497, runB.sl.v499,
    runB.sl.v501, runB.sl.v502, runB.sl.v504, runB.sl.v505, runB.sl.v507, runB.sl.v509, runB.sl.v510, runB.sl.v512, runB.sl.v513, runB.sl.v515,
    runB.sl.v517, runB.sl.v518, runB.sl.v52, runB.sl.v520, runB.sl.v521, runB.sl.v526, runB.sl.v527, runB.sl.v528, runB.sl.v529, runB.sl.v53,
    runB.sl.v531, runB.sl.v532, runB.sl.v534, runB.sl.v535, runB.sl.v537, runB.sl.v538, runB.sl.v54, runB.sl.v540, runB.sl.v541, runB.sl.v543,
    runB.sl.v544, runB.sl.v546, runB.sl.v547, runB.sl.v549, runB.sl.v55, runB.sl.v550, runB.sl.v551, runB.sl.v552, runB.sl.v555, runB.sl.v556,
    runB.sl.v557, runB.sl.v56, runB.sl.v560, runB.sl.v561, runB.sl.v562, runB.sl.v565, runB.sl.v566, runB.sl.v567, runB.sl.v57, runB.sl.v570,
    runB.sl.v571, runB.sl.v572, runB.sl.v575, runB.sl.v576, runB.sl.v577, runB.sl.v58, runB.sl.v580, runB.sl.v581, runB.sl.v582, runB.sl.v585,
    runB.sl.v586, runB.sl.v587, runB.sl.v59, runB.sl.v598, runB.sl.v599, runB.sl.v60, runB.sl.v601, runB.sl.v602, runB.sl.v603, runB.sl.v604,
    runB.sl.v606, runB.sl.v607, runB.sl.v608, runB.sl.v609, runB.sl.v61, runB.sl.v611, runB.sl.v612, runB.sl.v613, runB.sl.v614, runB.sl.v616,
    runB.sl.v617, runB.sl.v618, runB.sl.v619, runB.sl.v62, runB.sl.v621, runB.sl.v622, runB.sl.v623, runB.sl.v624, runB.sl.v626, runB.sl.v627,
    runB.sl.v628, runB.sl.v629, runB.sl.v63, runB.sl.v631, runB.sl.v632, runB.sl.v633, runB.sl.v634, runB.sl.v636, runB.sl.v637, runB.sl.v638,
    runB.sl.v639, runB.sl.v64, runB.sl.v641, runB.sl.v642, runB.sl.v643, runB.sl.v644, runB.sl.v646, runB.sl.v647, runB.sl.v648, runB.sl.v649,
    runB.sl.v65, runB.sl.v651, runB.sl.v652, runB.sl.v653, runB.sl.v654, runB.sl.v656, runB.sl.v657, runB.sl.v658, runB.sl.v659, runB.sl.v66,
    runB.sl.v661, runB.sl.v662, runB.sl.v663, runB.sl.v664, runB.sl.v666, runB.sl.v667, runB.sl.v668, runB.sl.v669, runB.sl.v67, runB.sl.v671,
    runB.sl.v672, runB.sl.v673, runB.sl.v674, runB.sl.v676, runB.sl.v677, runB.sl.v678, runB.sl.v679, runB.sl.v68, runB.sl.v681, runB.sl.v682,
    runB.sl.v683, runB.sl.v684, runB.sl.v686, runB.sl.v687, runB.sl.v688, runB.sl.v689, runB.sl.v69, runB.sl.v691, runB.sl.v692, runB.sl.v693,
    runB.sl.v694, runB.sl.v696, runB.sl.v697, runB.sl.v698, runB.sl.v699, runB.sl.v70, runB.sl.v701, runB.sl.v702, runB.sl.v703, runB.sl.v704,
    runB.sl.v706, runB.sl.v707, runB.sl.v708, runB.sl.v709, runB.sl.v71, runB.sl.v711, runB.sl.v712, runB.sl.v713, runB.sl.v714, runB.sl.v716,
    runB.sl.v717, runB.sl.v718, runB.sl.v719, runB.sl.v72, runB.sl.v721, runB.sl.v722, runB.sl.v723, runB.sl.v724, runB.sl.v726, runB.sl.v727,
    runB.sl.v728, runB.sl.v729, runB.sl.v73, runB.sl.v731, runB.sl.v732, runB.sl.v733, runB.sl.v734, runB.sl.v736, runB.sl.v737, runB.sl.v738,
    runB.sl.v739, runB.sl.v74, runB.sl.v741, runB.sl.v742, runB.sl.v743, runB.sl.v744, runB.sl.v746, runB.sl.v747, runB.sl.v748, runB.sl.v749,
    runB.sl.v75, runB.sl.v751, runB.sl.v752, runB.sl.v753, runB.sl.v754, runB.sl.v756, runB.sl.v757, runB.sl.v758, runB.sl.v759, runB.sl.v76,
    runB.sl.v761, runB.sl.v762, runB.sl.v763, runB.sl.v764, runB.sl.v766, runB.sl.v767, runB.sl.v768, runB.sl.v769, runB.sl.v77, runB.sl.v771,
    runB.sl.v772, runB.sl.v773, runB.sl.v774, runB.sl.v776, runB.sl.v777, runB.sl.v778, runB.sl.v779, runB.sl.v781, runB.sl.v782, runB.sl.v783,
    runB.sl.v784, runB.sl.v786, runB.sl.v787, runB.sl.v788, runB.sl.v789, runB.sl.v79, runB.sl.v791, runB.sl.v792, runB.sl.v793, runB.sl.v794,
    runB.sl.v796, runB.sl.v797, runB.sl.v798, runB.sl.v799, runB.sl.v801, runB.sl.v802, runB.sl.v803, runB.sl.v804, runB.sl.v806, runB.sl.v807,
    runB.sl.v808, runB.sl.v809, runB.sl.v81, runB.sl.v811, runB.sl.v812, runB.sl.v813, runB.sl.v814, runB.sl.v816, runB.sl.v817, runB.sl.v818,
    runB.sl.v819, runB.sl.v82, runB.sl.v821, runB.sl.v822, runB.sl.v823, runB.sl.v824, runB.sl.v826, runB.sl.v827, runB.sl.v828, runB.sl.v829,
    runB.sl.v831, runB.sl.v832, runB.sl.v833, runB.sl.v834, runB.sl.v836, runB.sl.v837, runB.sl.v838, runB.sl.v839, runB.sl.v84, runB.sl.v841,
    runB.sl.v842, runB.sl.v843, runB.sl.v844, runB.sl.v846, runB.sl.v847, runB.sl.v848, runB.sl.v849, runB.sl.v85, runB.sl.v851, runB.sl.v852,
    runB.sl.v853, runB.sl.v854, runB.sl.v856, runB.sl.v857, runB.sl.v858, runB.sl.v859, runB.sl.v86, runB.sl.v861, runB.sl.v862, runB.sl.v863,
    runB.sl.v864, runB.sl.v866, runB.sl.v867, runB.sl.v868, runB.sl.v869, runB.sl.v87, runB.sl.v871, runB.sl.v872, runB.sl.v873, runB.sl.v874,
    runB.sl.v876, runB.sl.v877, runB.sl.v878, runB.sl.v879, runB.sl.v88, runB.sl.v881, runB.sl.v882, runB.sl.v883, runB.sl.v884, runB.sl.v886,
    runB.sl.v887, runB.sl.v888, runB.sl.v889, runB.sl.v89, runB.sl.v891, runB.sl.v892, runB.sl.v893, runB.sl.v894, runB.sl.v896, runB.sl.v897,
    runB.sl.v898, runB.sl.v899, runB.sl.v90, runB.sl.v901, runB.sl.v902, runB.sl.v903, runB.sl.v904, runB.sl.v91, runB.sl.v92, runB.sl.v93,
    runB.sl.v94, runB.sl.v95, runB.sl.v96, runB.sl.v97, runB.sl.v98, runB.sl.v99,
    s0, f0, s1, f1, s2, f2, s3, f3, s4, f4, s5, f5, s6, f6, s7, f7,
    load_window harg4, load_window harg5, load_window harg25, load_whole harg16, load_whole harg17,
    k0_pay176, k0_pay177, k0_pay178, k0_pay179, k0_pay180, k0_pay181, k0_pay182, k0_pay183, k0_pay35, k0_pay36]
  simp only [accum, term, filt, stacked, along, locOf, weight, sqDist, turn, delta, wide, laneSum, k0_pay35, k0_pay36]
  set_option maxHeartbeats 400000 in
  rfl

/-- The contents the run leaves. -/
theorem runB_read (hc0 : ¬cond0_0 i) (hc1 : cond0_1 i) (hc2 : ¬cond0_2 i)
    (x3 : Vec F S16x3 .f32) (x4 : Vec F S16x9 .f32) (x15 : Vec F S128x64 .bf16) (x16 : Vec F S128x144 .bf16) (d0 : Vec F S224x2048 .f32) (d1 : Vec F S2048x8 .f32) :
    arg26.view.read (Elt F) (arg26.view.writes (Elt F) (harg26.unread (Val := Elt F) d1)
      (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x3 x4 x15 x16 d0 d1).1)
      = VecWindow.put d1 (k0_off1 i) S16x8.size (pairBlock x3 x4 x15 x16 d0) := by
  rw [runB_list]; exact (View.read_writes_cons_put _ _ _ _ _ rfl).trans (by rw [View.writes_nil, harg26.read_unread])

end Cert.KernelIdeal.Hand
-- ==== Proof.KernelIdeal.RunC.lean ====
module

public import proofs.«01_k».proof.Proof.KernelIdeal.Guards

/-! The body at point 129: the output network on the convolution rows. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S2048x16 .f32) (harg1 : arg1.IsWhole)
  (arg2 : Memref sig .tc .vmem S2048x3 .f32) (harg2 : arg2.IsWhole)
  (arg3 : Memref sig .tc .vmem S2048x9 .f32) (harg3 : arg3.IsWhole)
  (arg4 : Memref sig .tc .vmem S16x3 .f32) (harg4 : arg4.IsWhole)
  (arg5 : Memref sig .tc .vmem S16x9 .f32) (harg5 : arg5.IsWhole)
  (arg6 : Memref sig .tc .vmem S3x3 .f32) (harg6 : arg6.IsWhole)
  (arg7 : Memref sig .tc .vmem S3x9 .f32) (harg7 : arg7.IsWhole)
  (arg8 : Memref sig .tc .vmem S8x8 .f32) (harg8 : arg8.IsWhole)
  (arg9 : Memref sig .tc .vmem S16x16 .f32) (harg9 : arg9.IsWhole)
  (arg10 : Memref sig .tc .vmem S8x16 .f32) (harg10 : arg10.IsWhole)
  (arg11 : Memref sig .tc .vmem S8x1 .f32) (harg11 : arg11.IsWhole)
  (arg12 : Memref sig .tc .vmem S8x8 .f32) (harg12 : arg12.IsWhole)
  (arg13 : Memref sig .tc .vmem S8x1 .f32) (harg13 : arg13.IsWhole)
  (arg14 : Memref sig .tc .vmem S8x1 .f32) (harg14 : arg14.IsWhole)
  (arg15 : Memref sig .tc .vmem S8x1 .f32) (harg15 : arg15.IsWhole)
  (arg16 : Memref sig .tc .vmem S128x64 .bf16) (harg16 : arg16.IsWhole)
  (arg17 : Memref sig .tc .vmem S128x144 .bf16) (harg17 : arg17.IsWhole)
  (arg18 : Memref sig .tc .vmem S16x8 .f32) (harg18 : arg18.IsWhole)
  (arg19 : Memref sig .tc .vmem S16x1 .f32) (harg19 : arg19.IsWhole)
  (arg20 : Memref sig .tc .vmem S16x16 .f32) (harg20 : arg20.IsWhole)
  (arg21 : Memref sig .tc .vmem S16x1 .f32) (harg21 : arg21.IsWhole)
  (arg22 : Memref sig .tc .vmem S16x1 .f32) (harg22 : arg22.IsWhole)
  (arg23 : Memref sig .tc .vmem S16x1 .f32) (harg23 : arg23.IsWhole)
  (arg24 : Memref sig .tc .vmem S2048x16 .f32) (harg24 : arg24.IsWhole)
  (arg25 : Memref sig .tc .vmem S224x2048 .f32) (harg25 : arg25.IsWhole)
  (arg26 : Memref sig .tc .vmem S2048x8 .f32) (harg26 : arg26.IsWhole)

set_option maxHeartbeats 0 in
/-- The body run at such a point: it reads the memrefs named, writes the one that changes, and leaves the others. -/
def runC (hc0 : ¬cond0_0 i) (hc1 : ¬cond0_1 i) (hc2 : cond0_2 i)
    (x7 : Vec F S8x8 .f32) (x8 : Vec F S16x16 .f32) (x17 : Vec F S16x8 .f32) (x18 : Vec F S16x1 .f32) (x19 : Vec F S16x16 .f32) (x20 : Vec F S16x1 .f32) (x21 : Vec F S16x1 .f32) (x22 : Vec F S16x1 .f32) (d1 : Vec F S2048x8 .f32) (o : Vec F S2048x16 .f32) :
  { L : List (View.Piece (Elt F) S2048x16 .f32) // ∀ (E : Set ℕ) (K : PUnit → sProp 𝕄),
   iprop(owns (c : Thread nD τ) arg8 fullShare x7
      ∗ owns (c : Thread nD τ) arg9 fullShare x8
      ∗ owns (c : Thread nD τ) arg18 fullShare x17
      ∗ owns (c : Thread nD τ) arg19 fullShare x18
      ∗ owns (c : Thread nD τ) arg20 fullShare x19
      ∗ owns (c : Thread nD τ) arg21 fullShare x20
      ∗ owns (c : Thread nD τ) arg22 fullShare x21
      ∗ owns (c : Thread nD τ) arg23 fullShare x22
      ∗ owns (c : Thread nD τ) arg26 fullShare d1
      ∗ owns (c : Thread nD τ) arg24 fullShare o
     ∗ (iprop(owns (c : Thread nD τ) arg8 fullShare x7
      ∗ owns (c : Thread nD τ) arg9 fullShare x8
      ∗ owns (c : Thread nD τ) arg18 fullShare x17
      ∗ owns (c : Thread nD τ) arg19 fullShare x18
      ∗ owns (c : Thread nD τ) arg20 fullShare x19
      ∗ owns (c : Thread nD τ) arg21 fullShare x20
      ∗ owns (c : Thread nD τ) arg22 fullShare x21
      ∗ owns (c : Thread nD τ) arg23 fullShare x22
      ∗ owns (c : Thread nD τ) arg26 fullShare d1
      ∗ (arg24.view.loc (c : Thread nD τ) ↦[arg24.view.set]{fullShare}
          arg24.view.writes (Elt F) (harg24.unread (Val := Elt F) o) L)) -∗ K ⟨⟩))
    ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    unfold owns
    iintro ⟨⟨%f7, %hf7, H7⟩, ⟨%f8, %hf8, H8⟩, ⟨%f17, %hf17, H17⟩, ⟨%f18, %hf18, H18⟩, ⟨%f19, %hf19, H19⟩, ⟨%f20, %hf20, H20⟩, ⟨%f21, %hf21, H21⟩, ⟨%f22, %hf22, H22⟩, ⟨%f25, %hf25, H25⟩, ⟨%f23, %hf23, H23⟩, Hk⟩
    obtain rfl := harg8.eq_unread hf7; obtain rfl := harg9.eq_unread hf8; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg26.eq_unread hf25; obtain rfl := harg24.eq_unread hf23
    simp only [cc0__fused_body_eq_skeleton]; unfold cc0__fused_body_skel
    simp only [k0_part25_eq_skeleton, k0_part26_eq_skeleton]
    sl_exec (disch := first | sl_exact hc0 | sl_exact hc1 | sl_exact hc2)
    sl_step
    iapply Hk
    isplitl [H7]
    · iexists _; isplitr; · ipureintro; exact harg8.read_unread _
      iexact H7
    isplitl [H8]
    · iexists _; isplitr; · ipureintro; exact harg9.read_unread _
      iexact H8
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H25]
    · iexists _; isplitr; · ipureintro; exact harg26.read_unread _
      iexact H25
    iexact H23

end Cert.KernelIdeal.Hand
-- ==== Proof.KernelIdeal.RunCValue.lean ====
module

public import proofs.«01_k».proof.Proof.KernelIdeal.RunC

/-! What the body writes at point 129. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S2048x16 .f32) (harg1 : arg1.IsWhole)
  (arg2 : Memref sig .tc .vmem S2048x3 .f32) (harg2 : arg2.IsWhole)
  (arg3 : Memref sig .tc .vmem S2048x9 .f32) (harg3 : arg3.IsWhole)
  (arg4 : Memref sig .tc .vmem S16x3 .f32) (harg4 : arg4.IsWhole)
  (arg5 : Memref sig .tc .vmem S16x9 .f32) (harg5 : arg5.IsWhole)
  (arg6 : Memref sig .tc .vmem S3x3 .f32) (harg6 : arg6.IsWhole)
  (arg7 : Memref sig .tc .vmem S3x9 .f32) (harg7 : arg7.IsWhole)
  (arg8 : Memref sig .tc .vmem S8x8 .f32) (harg8 : arg8.IsWhole)
  (arg9 : Memref sig .tc .vmem S16x16 .f32) (harg9 : arg9.IsWhole)
  (arg10 : Memref sig .tc .vmem S8x16 .f32) (harg10 : arg10.IsWhole)
  (arg11 : Memref sig .tc .vmem S8x1 .f32) (harg11 : arg11.IsWhole)
  (arg12 : Memref sig .tc .vmem S8x8 .f32) (harg12 : arg12.IsWhole)
  (arg13 : Memref sig .tc .vmem S8x1 .f32) (harg13 : arg13.IsWhole)
  (arg14 : Memref sig .tc .vmem S8x1 .f32) (harg14 : arg14.IsWhole)
  (arg15 : Memref sig .tc .vmem S8x1 .f32) (harg15 : arg15.IsWhole)
  (arg16 : Memref sig .tc .vmem S128x64 .bf16) (harg16 : arg16.IsWhole)
  (arg17 : Memref sig .tc .vmem S128x144 .bf16) (harg17 : arg17.IsWhole)
  (arg18 : Memref sig .tc .vmem S16x8 .f32) (harg18 : arg18.IsWhole)
  (arg19 : Memref sig .tc .vmem S16x1 .f32) (harg19 : arg19.IsWhole)
  (arg20 : Memref sig .tc .vmem S16x16 .f32) (harg20 : arg20.IsWhole)
  (arg21 : Memref sig .tc .vmem S16x1 .f32) (harg21 : arg21.IsWhole)
  (arg22 : Memref sig .tc .vmem S16x1 .f32) (harg22 : arg22.IsWhole)
  (arg23 : Memref sig .tc .vmem S16x1 .f32) (harg23 : arg23.IsWhole)
  (arg24 : Memref sig .tc .vmem S2048x16 .f32) (harg24 : arg24.IsWhole)
  (arg25 : Memref sig .tc .vmem S224x2048 .f32) (harg25 : arg25.IsWhole)
  (arg26 : Memref sig .tc .vmem S2048x8 .f32) (harg26 : arg26.IsWhole)

set_option maxHeartbeats 0 in
/-- What the run writes. -/
theorem runC_list (hc0 : ¬cond0_0 i) (hc1 : ¬cond0_1 i) (hc2 : cond0_2 i)
    (x7 : Vec F S8x8 .f32) (x8 : Vec F S16x16 .f32) (x17 : Vec F S16x8 .f32) (x18 : Vec F S16x1 .f32) (x19 : Vec F S16x16 .f32) (x20 : Vec F S16x1 .f32) (x21 : Vec F S16x1 .f32) (x22 : Vec F S16x1 .f32) (d1 : Vec F S2048x8 .f32) (o : Vec F S2048x16 .f32) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x7 x8 x17 x18 x19 x20 x21 x22 d1 o).1
      = [⟨Rect.unit ![0, 0] S2048x16.size inb_S2048x16_S2048x16_0_0, outT (outNet (convT d1 x7) x17 x18 x19 x20 x21 x22) x8⟩] := by
  have e : ∀ (a b c' d' e' f' : _), k0_pay184 (F := F) a b c' d' e' f' = leaky (outDense2 (leaky (outDense1 (convT b a) c' d')) e' f') := by
    intros; simp only [k0_pay184, shapeCast_self]; rfl
  unfold runC
  dsimp only
  simp only [runC.sl.r, runC.sl.r_1, runC.sl.r_2, runC.sl.r_3, runC.sl.r_4, runC.sl.r_5, runC.sl.r_6, runC.sl.r_7, runC.sl.r_8, runC.sl.r_9,
    load_whole harg8, load_whole harg9, load_whole harg18, load_whole harg19, load_whole harg20, load_whole harg21,
    load_whole harg22, load_whole harg23, load_whole harg26,
    k0_pay185, k0_pay186, k0_pay187, k0_pay188, shapeCast_self]
  simp only [e]
  unfold outNet
  generalize leaky (outDense2 (leaky (outDense1 (convT d1 x7) x17 x18)) x19 x20) = v
  simp only [k0_pay189, k0_pay190, k0_pay191, k0_pay192, k0_pay193, k0_pay3, shapeCast_self]
  rfl

/-- The contents the run leaves. -/
theorem runC_read (hc0 : ¬cond0_0 i) (hc1 : ¬cond0_1 i) (hc2 : cond0_2 i)
    (x7 : Vec F S8x8 .f32) (x8 : Vec F S16x16 .f32) (x17 : Vec F S16x8 .f32) (x18 : Vec F S16x1 .f32) (x19 : Vec F S16x16 .f32) (x20 : Vec F S16x1 .f32) (x21 : Vec F S16x1 .f32) (x22 : Vec F S16x1 .f32) (d1 : Vec F S2048x8 .f32) (o : Vec F S2048x16 .f32) :
    arg24.view.read (Elt F) (arg24.view.writes (Elt F) (harg24.unread (Val := Elt F) o)
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x7 x8 x17 x18 x19 x20 x21 x22 d1 o).1)
      = outT (outNet (convT d1 x7) x17 x18 x19 x20 x21 x22) x8 := by
  rw [runC_list]; exact View.read_writes_full _ _ _ _ _

end Cert.KernelIdeal.Hand
-- ==== Proof.KernelIdeal.Region.lean ====
module

public import proofs.«01_k».proof.Proof.KernelIdeal.RunAValue
public import proofs.«01_k».proof.Proof.KernelIdeal.RunBValue
public import proofs.«01_k».proof.Proof.KernelIdeal.RunCValue
public import proofs.«01_k».proof.Proof.Gen.KernelIdeal.Frame
public import Idealize.ShloMosaic.Lib.Claim
public import Idealize.ShloMosaic.Lib.Pointwise.Index

/-! The proof data of the region: which point is of which kind, what the two scratch buffers hold between points, and what
the windows are left at. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The grid has 130 points. -/
theorem lt_N (t : Fin cfg0.N) : t.val < 130 := lt_of_lt_of_eq t.isLt N_0

/-- The first guard holds at point 0 only. -/
theorem hcond0_0 : ∀ t : Fin cfg0.N, cond0_0 (grid0.coords t) ↔ t.val = 0 := by decide +kernel
/-- The second guard holds at points 1 to 128. -/
theorem hcond0_1 : ∀ t : Fin cfg0.N, cond0_1 (grid0.coords t) ↔ 1 ≤ t.val ∧ t.val ≤ 128 := by decide +kernel
/-- The third guard holds at point 129 only. -/
theorem hcond0_2 : ∀ t : Fin cfg0.N, cond0_2 (grid0.coords t) ↔ t.val = 129 := by decide +kernel
/-- The output window is idle before the last point. -/
theorem idle23 : ∀ t : Fin cfg0.N, t.val ≠ 129 → cfg0.idle 23 (grid0.coords t) = true := by decide +kernel
/-- The output window is not written back before the last point. -/
theorem noFlush23 : ∀ t : Fin cfg0.N, t.val ≠ 129 → (cfg0.win 23).flush t = false := by decide +kernel
/-- The output window is live at the last point. -/
theorem live23 : ∀ t : Fin cfg0.N, t.val = 129 → cfg0.idle 23 (grid0.coords t) = false := by decide +kernel
/-- Point `t` between 1 and 128 stores at row `16 (t - 1)`. -/
theorem off1_0 : ∀ t : Fin cfg0.N, 1 ≤ t.val → t.val ≤ 128 → k0_off1 (grid0.coords t) 0 = 16 * (t.val - 1) := by decide +kernel
/-- And at column 0. -/
theorem off1_1 : ∀ t : Fin cfg0.N, k0_off1 (grid0.coords t) 1 = 0 := by decide +kernel

abbrev ms0_0 (t : Fin cfg0.N) : Memref sig .tc .vmem S2048x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x9 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x9 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x3 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x9 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x16 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x8 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x64 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x144 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S16x8 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S16x1 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S16x16 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S16x1 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S16x1 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S16x1 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S2048x16 .f32 := win0_23.stage (cfg0.slots t 23)
abbrev hs0_23 (t : Fin cfg0.N) : (ms0_23 t).IsWhole := hstage0_23 ((cfg0.slots t 23).cast nbuf0_23)
abbrev scM0_0 : Memref sig .tc .vmem S224x2048 .f32 := Memref.whole cc0_scratch0
abbrev scM0_1 : Memref sig .tc .vmem S2048x8 .f32 := Memref.whole cc0_scratch1

/-- What the region is handed: the two scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ)

/-- The first point. -/
def pt0 : Fin cfg0.N := ⟨0, by rw [show cfg0.N = 130 from N_0]; decide⟩

/-- The last point. -/
def ptZ : Fin cfg0.N := ⟨129, by rw [show cfg0.N = 130 from N_0]; decide⟩

/-- The point that writes row `y` of the convolution. -/
def ptOf (y : S2048x8.Idx) : Fin cfg0.N :=
  ⟨(y 0).val / 16 + 1, by rw [show cfg0.N = 130 from N_0]; have : (y 0).val < 2048 := (y 0).isLt; omega⟩

/-- The table as point 0 leaves it. -/
def JD (c : Dev nD) : Vec F S224x2048 .f32 :=
  table (ptsT (iblk m c 1 pt0) (iblk m c 5 pt0)) (nrmT (iblk m c 2 pt0) (iblk m c 6 pt0))
    (inNet (iblk m c 0 pt0) (iblk m c 9 pt0) (iblk m c 10 pt0) (iblk m c 11 pt0) (iblk m c 12 pt0) (iblk m c 13 pt0) (iblk m c 14 pt0))

/-- The block of convolution rows that point `t` writes. -/
def PB (c : Dev nD) (t : Fin cfg0.N) : Vec F S16x8 .f32 :=
  pairBlock (iblk m c 3 t) (iblk m c 4 t) (iblk m c 15 t) (iblk m c 16 t) (JD m c)

/-- All convolution rows. -/
def PAIR (c : Dev nD) : Vec F S2048x8 .f32 := fun y =>
  PB m c (ptOf y) (ix2 ⟨(y 0).val % 16, Nat.mod_lt _ (by decide)⟩ (y 1))

/-- The output as the last point leaves it. -/
def OUT (c : Dev nD) : Vec F S2048x16 .f32 :=
  outT (outNet (convT (PAIR m c) (iblk m c 7 ptZ)) (iblk m c 17 ptZ) (iblk m c 18 ptZ) (iblk m c 19 ptZ) (iblk m c 20 ptZ)
    (iblk m c 21 ptZ) (iblk m c 22 ptZ)) (iblk m c 8 ptZ)

/-- What is known of the scratch buffers before point `k`: the table is there once point 0 has run, and so are the
convolution rows of the points that have run. -/
def Known (c : Dev nD) (k : ℕ) (d0 : Vec F S224x2048 .f32) (d1 : Vec F S2048x8 .f32) : Prop :=
  (1 ≤ k → d0 = JD m c) ∧ ∀ y : S2048x8.Idx, (y 0).val < 16 * (k - 1) → d1 y = PAIR m c y

/-- Nothing is known before point 0. -/
theorem known_zero (c : Dev nD) (d0 : Vec F S224x2048 .f32) (d1 : Vec F S2048x8 .f32) : Known m c 0 d0 d1 :=
  ⟨fun h => absurd h (by decide), fun y h => absurd h (by simp)⟩

/-- After point 0 the table is known. -/
theorem known_one (c : Dev nD) (d1 : Vec F S2048x8 .f32) : Known m c 1 (JD m c) d1 :=
  ⟨fun _ => rfl, fun y h => absurd h (by simp)⟩

/-- A middle point adds its own sixteen rows. -/
theorem known_succ (c : Dev nD) (t : Fin cfg0.N) (h1 : 1 ≤ t.val) (h2 : t.val ≤ 128) (d1 : Vec F S2048x8 .f32)
    (h : Known m c t.val (JD m c) d1) :
    Known m c (t.val + 1) (JD m c) (VecWindow.put d1 (k0_off1 (grid0.coords t)) S16x8.size (PB m c t)) := by
  refine ⟨fun _ => rfl, fun y hy => ?_⟩
  have o0 := off1_0 t h1 h2
  have o1 := off1_1 t
  have y1 : (y 1).val < 8 := (y 1).isLt
  unfold VecWindow.put
  split
  · rename_i hin
    have hin0 : k0_off1 (grid0.coords t) 0 ≤ (y 0).val ∧ (y 0).val < k0_off1 (grid0.coords t) 0 + 16 := hin 0
    have e : ptOf y = t := Fin.ext (by show (y 0).val / 16 + 1 = t.val; omega)
    show _ = PB m c (ptOf y) _
    rw [e]
    refine congrArg (PB m c t) (funext fun a => ?_)
    match a with
    | ⟨0, _⟩ => exact Fin.ext (by show (y 0).val - k0_off1 (grid0.coords t) 0 = (y 0).val % 16; omega)
    | ⟨1, _⟩ => exact Fin.ext (by show (y 1).val - k0_off1 (grid0.coords t) 1 = (y 1).val; omega)
  · rename_i hout
    refine h.2 y ?_
    by_contra hlt
    refine hout fun a => ?_
    match a with
    | ⟨0, _⟩ => show k0_off1 (grid0.coords t) 0 ≤ (y 0).val ∧ (y 0).val < k0_off1 (grid0.coords t) 0 + 16; omega
    | ⟨1, _⟩ => show k0_off1 (grid0.coords t) 1 ≤ (y 1).val ∧ (y 1).val < k0_off1 (grid0.coords t) 1 + 8; omega

/-- Before the last point every convolution row is known. -/
theorem known_last (c : Dev nD) (t : Fin cfg0.N) (ht : t.val = 129) (d0 : Vec F S224x2048 .f32) (d1 : Vec F S2048x8 .f32)
    (h : Known m c t.val d0 d1) : d0 = JD m c ∧ d1 = PAIR m c :=
  ⟨h.1 (by omega), funext fun y => h.2 y (by have : (y 0).val < 2048 := (y 0).isLt; omega)⟩

/-- The invariant before point `k`. -/
def PhiS (c : Dev nD) (k : ℕ) : sProp 𝕄 :=
  iprop(∃ d0, ∃ d1, ⌜Known m c k d0 d1⌝ ∗ owns (c : Thread nD τ) scM0_0 fullShare d0 ∗ owns (c : Thread nD τ) scM0_1 fullShare d1
    ∗ (∃ r, prngReg c r))

/-- The proof data: inputs stay at their blocks, the output is left at `OUT`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => OUT m c
    | ⟨_ + 24, h⟩ => absurd h (Nat.not_lt.2 (Nat.le_add_left _ _))
  Φ t := PhiS m c t.val
  q w := Pipeline.shareOf spec0 w
  owed _ := 0

/-- The arrays of the proof data are those the region is entered with. -/
theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = OUT m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem leaves0_0 (c : Dev nD) (t : Fin cfg0.N) :
    (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) :
    (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) :
    (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) :
    (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) :
    (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) :
    (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) :
    (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) :
    (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) :
    (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) :
    (dats m 0 c).leavesExact 9 t = owns (c : Thread nD τ) (ms0_9 t) fullShare (iblk m c 9 t) := by
  unfold Dat.leavesExact; rw [show cfg0.idle 9 (grid0.coords t) = false from rfl, after0_9]
theorem leaves0_10 (c : Dev nD) (t : Fin cfg0.N) :
    (dats m 0 c).leavesExact 10 t = owns (c : Thread nD τ) (ms0_10 t) fullShare (iblk m c 10 t) := by
  unfold Dat.leavesExact; rw [show cfg0.idle 10 (grid0.coords t) = false from rfl, after0_10]
theorem leaves0_11 (c : Dev nD) (t : Fin cfg0.N) :
    (dats m 0 c).leavesExact 11 t = owns (c : Thread nD τ) (ms0_11 t) fullShare (iblk m c 11 t) := by
  unfold Dat.leavesExact; rw [show cfg0.idle 11 (grid0.coords t) = false from rfl, after0_11]
theorem leaves0_12 (c : Dev nD) (t : Fin cfg0.N) :
    (dats m 0 c).leavesExact 12 t = owns (c : Thread nD τ) (ms0_12 t) fullShare (iblk m c 12 t) := by
  unfold Dat.leavesExact; rw [show cfg0.idle 12 (grid0.coords t) = false from rfl, after0_12]
theorem leaves0_13 (c : Dev nD) (t : Fin cfg0.N) :
    (dats m 0 c).leavesExact 13 t = owns (c : Thread nD τ) (ms0_13 t) fullShare (iblk m c 13 t) := by
  unfold Dat.leavesExact; rw [show cfg0.idle 13 (grid0.coords t) = false from rfl, after0_13]
theorem leaves0_14 (c : Dev nD) (t : Fin cfg0.N) :
    (dats m 0 c).leavesExact 14 t = owns (c : Thread nD τ) (ms0_14 t) fullShare (iblk m c 14 t) := by
  unfold Dat.leavesExact; rw [show cfg0.idle 14 (grid0.coords t) = false from rfl, after0_14]
theorem leaves0_15 (c : Dev nD) (t : Fin cfg0.N) :
    (dats m 0 c).leavesExact 15 t = owns (c : Thread nD τ) (ms0_15 t) fullShare (iblk m c 15 t) := by
  unfold Dat.leavesExact; rw [show cfg0.idle 15 (grid0.coords t) = false from rfl, after0_15]
theorem leaves0_16 (c : Dev nD) (t : Fin cfg0.N) :
    (dats m 0 c).leavesExact 16 t = owns (c : Thread nD τ) (ms0_16 t) fullShare (iblk m c 16 t) := by
  unfold Dat.leavesExact; rw [show cfg0.idle 16 (grid0.coords t) = false from rfl, after0_16]
theorem leaves0_17 (c : Dev nD) (t : Fin cfg0.N) :
    (dats m 0 c).leavesExact 17 t = owns (c : Thread nD τ) (ms0_17 t) fullShare (iblk m c 17 t) := by
  unfold Dat.leavesExact; rw [show cfg0.idle 17 (grid0.coords t) = false from rfl, after0_17]
theorem leaves0_18 (c : Dev nD) (t : Fin cfg0.N) :
    (dats m 0 c).leavesExact 18 t = owns (c : Thread nD τ) (ms0_18 t) fullShare (iblk m c 18 t) := by
  unfold Dat.leavesExact; rw [show cfg0.idle 18 (grid0.coords t) = false from rfl, after0_18]
theorem leaves0_19 (c : Dev nD) (t : Fin cfg0.N) :
    (dats m 0 c).leavesExact 19 t = owns (c : Thread nD τ) (ms0_19 t) fullShare (iblk m c 19 t) := by
  unfold Dat.leavesExact; rw [show cfg0.idle 19 (grid0.coords t) = false from rfl, after0_19]
theorem leaves0_20 (c : Dev nD) (t : Fin cfg0.N) :
    (dats m 0 c).leavesExact 20 t = owns (c : Thread nD τ) (ms0_20 t) fullShare (iblk m c 20 t) := by
  unfold Dat.leavesExact; rw [show cfg0.idle 20 (grid0.coords t) = false from rfl, after0_20]
theorem leaves0_21 (c : Dev nD) (t : Fin cfg0.N) :
    (dats m 0 c).leavesExact 21 t = owns (c : Thread nD τ) (ms0_21 t) fullShare (iblk m c 21 t) := by
  unfold Dat.leavesExact; rw [show cfg0.idle 21 (grid0.coords t) = false from rfl, after0_21]
theorem leaves0_22 (c : Dev nD) (t : Fin cfg0.N) :
    (dats m 0 c).leavesExact 22 t = owns (c : Thread nD τ) (ms0_22 t) fullShare (iblk m c 22 t) := by
  unfold Dat.leavesExact; rw [show cfg0.idle 22 (grid0.coords t) = false from rfl, after0_22]
/-- The output window at the last point is left at `OUT`. -/
theorem leaves0_23 (c : Dev nD) (t : Fin cfg0.N) (ht : t.val = 129) :
    (dats m 0 c).leavesExact 23 t = owns (c : Thread nD τ) (ms0_23 t) fullShare (OUT m c) := by
  unfold Dat.leavesExact; rw [live23 t ht, after0_23]

end Cert.KernelIdeal.Hand
-- ==== Proof.KernelIdeal.Body.lean ====
module

public import proofs.«01_k».proof.Proof.KernelIdeal.Region

/-! The body's triple at every point, and the launch. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

set_option maxHeartbeats 4000000 in
/-- The body at point 0. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).owesAt () t.succ = (dats m 0 c).owesAt () t.castSucc from rfl,
    show (dats m 0 c).Φ t.castSucc = PhiS m c t.val from rfl, show (dats m 0 c).Φ t.succ = PhiS m c (t.val + 1) from rfl,
    leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22]
  rw [Dat.leavesExact_idle (dats m 0 c) 23 t (idle23 t (by omega)) (noFlush23 t (by omega))]
  unfold PhiS
  iintro ⟨⟨%d0, %d1, %hk, HS0, HS1, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩⟩
  obtain rfl : t = pt0 := Fin.ext h
  iapply ((runA c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) (ms0_8 pt0) (hs0_8 pt0) (ms0_9 pt0) (hs0_9 pt0) (ms0_10 pt0) (hs0_10 pt0) (ms0_11 pt0) (hs0_11 pt0) (ms0_12 pt0) (hs0_12 pt0) (ms0_13 pt0) (hs0_13 pt0) (ms0_14 pt0) (hs0_14 pt0) (ms0_15 pt0) (hs0_15 pt0) (ms0_16 pt0) (hs0_16 pt0) (ms0_17 pt0) (hs0_17 pt0) (ms0_18 pt0) (hs0_18 pt0) (ms0_19 pt0) (hs0_19 pt0) (ms0_20 pt0) (hs0_20 pt0) (ms0_21 pt0) (hs0_21 pt0) (ms0_22 pt0) (hs0_22 pt0) (ms0_23 pt0) (hs0_23 pt0) scM0_0 (Memref.isWhole_whole _) scM0_1 (Memref.isWhole_whole _) ((hcond0_0 pt0).mpr h) (fun h' => by have := (hcond0_1 pt0).mp h'; omega) (fun h' => by have := (hcond0_2 pt0).mp h'; omega) (iblk m c 0 pt0) (iblk m c 1 pt0) (iblk m c 2 pt0) (iblk m c 5 pt0) (iblk m c 6 pt0) (iblk m c 9 pt0) (iblk m c 10 pt0) (iblk m c 11 pt0) (iblk m c 12 pt0) (iblk m c 13 pt0) (iblk m c 14 pt0) d0).2 Set.univ _)
  isplitl [H0]; · iexact H0
  isplitl [H1]; · iexact H1
  isplitl [H2]; · iexact H2
  isplitl [H5]; · iexact H5
  isplitl [H6]; · iexact H6
  isplitl [H9]; · iexact H9
  isplitl [H10]; · iexact H10
  isplitl [H11]; · iexact H11
  isplitl [H12]; · iexact H12
  isplitl [H13]; · iexact H13
  isplitl [H14]; · iexact H14
  isplitl [HS0]; · iexact HS0
  iintro ⟨H0, H1, H2, H5, H6, H9, H10, H11, H12, H13, H14, HS0⟩
  isplitl [HS0 HS1 Hg]
  · iexists (JD m c), d1
    isplitr; · ipureintro; exact known_one m c d1
    isplitl [HS0]
    · unfold owns; iexists _; isplitr
      swap; · iexact HS0
      ipureintro; exact runA_read c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) (ms0_8 pt0) (hs0_8 pt0) (ms0_9 pt0) (hs0_9 pt0) (ms0_10 pt0) (hs0_10 pt0) (ms0_11 pt0) (hs0_11 pt0) (ms0_12 pt0) (hs0_12 pt0) (ms0_13 pt0) (hs0_13 pt0) (ms0_14 pt0) (hs0_14 pt0) (ms0_15 pt0) (hs0_15 pt0) (ms0_16 pt0) (hs0_16 pt0) (ms0_17 pt0) (hs0_17 pt0) (ms0_18 pt0) (hs0_18 pt0) (ms0_19 pt0) (hs0_19 pt0) (ms0_20 pt0) (hs0_20 pt0) (ms0_21 pt0) (hs0_21 pt0) (ms0_22 pt0) (hs0_22 pt0) (ms0_23 pt0) (hs0_23 pt0) scM0_0 (Memref.isWhole_whole _) scM0_1 (Memref.isWhole_whole _) ((hcond0_0 pt0).mpr h) (fun h' => by have := (hcond0_1 pt0).mp h'; omega) (fun h' => by have := (hcond0_2 pt0).mp h'; omega) (iblk m c 0 pt0) (iblk m c 1 pt0) (iblk m c 2 pt0) (iblk m c 5 pt0) (iblk m c 6 pt0) (iblk m c 9 pt0) (iblk m c 10 pt0) (iblk m c 11 pt0) (iblk m c 12 pt0) (iblk m c 13 pt0) (iblk m c 14 pt0) d0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexists _; iexact H23

set_option maxHeartbeats 4000000 in
/-- The body at a middle point. -/
theorem sound_B (c : Dev nD) (t : Fin cfg0.N) (h : 1 ≤ t.val ∧ t.val ≤ 128) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).owesAt () t.succ = (dats m 0 c).owesAt () t.castSucc from rfl,
    show (dats m 0 c).Φ t.castSucc = PhiS m c t.val from rfl, show (dats m 0 c).Φ t.succ = PhiS m c (t.val + 1) from rfl,
    leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22]
  rw [Dat.leavesExact_idle (dats m 0 c) 23 t (idle23 t (by omega)) (noFlush23 t (by omega))]
  unfold PhiS
  iintro ⟨⟨%d0, %d1, %hk, HS0, HS1, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩⟩
  obtain rfl := hk.1 h.1
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h' => by have := (hcond0_0 t).mp h'; omega) ((hcond0_1 t).mpr h) (fun h' => by have := (hcond0_2 t).mp h'; omega) (iblk m c 3 t) (iblk m c 4 t) (iblk m c 15 t) (iblk m c 16 t) (JD m c) d1).2 Set.univ _)
  isplitl [H3]; · iexact H3
  isplitl [H4]; · iexact H4
  isplitl [H15]; · iexact H15
  isplitl [H16]; · iexact H16
  isplitl [HS0]; · iexact HS0
  isplitl [HS1]; · iexact HS1
  iintro ⟨H3, H4, H15, H16, HS0, HS1⟩
  isplitl [HS0 HS1 Hg]
  · iexists (JD m c), (VecWindow.put d1 (k0_off1 (grid0.coords t)) S16x8.size (PB m c t))
    isplitr; · ipureintro; exact known_succ m c t h.1 h.2 d1 hk
    isplitl [HS0]; · iexact HS0
    isplitl [HS1]
    · unfold owns; iexists _; isplitr
      swap; · iexact HS1
      ipureintro; exact runB_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h' => by have := (hcond0_0 t).mp h'; omega) ((hcond0_1 t).mpr h) (fun h' => by have := (hcond0_2 t).mp h'; omega) (iblk m c 3 t) (iblk m c 4 t) (iblk m c 15 t) (iblk m c 16 t) (JD m c) d1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexists _; iexact H23

set_option maxHeartbeats 4000000 in
/-- The body at the last point. -/
theorem sound_C (c : Dev nD) (t : Fin cfg0.N) (h : t.val = 129) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).owesAt () t.succ = (dats m 0 c).owesAt () t.castSucc from rfl,
    show (dats m 0 c).Φ t.castSucc = PhiS m c t.val from rfl, show (dats m 0 c).Φ t.succ = PhiS m c (t.val + 1) from rfl,
    leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22]
  rw [leaves0_23 m c t h]
  unfold PhiS
  iintro ⟨⟨%d0, %d1, %hk, HS0, HS1, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩⟩
  obtain ⟨rfl, rfl⟩ := known_last m c t h d0 d1 hk
  obtain rfl : t = ptZ := Fin.ext h
  iapply ((runC c (grid0.coords ptZ) (ms0_0 ptZ) (hs0_0 ptZ) (ms0_1 ptZ) (hs0_1 ptZ) (ms0_2 ptZ) (hs0_2 ptZ) (ms0_3 ptZ) (hs0_3 ptZ) (ms0_4 ptZ) (hs0_4 ptZ) (ms0_5 ptZ) (hs0_5 ptZ) (ms0_6 ptZ) (hs0_6 ptZ) (ms0_7 ptZ) (hs0_7 ptZ) (ms0_8 ptZ) (hs0_8 ptZ) (ms0_9 ptZ) (hs0_9 ptZ) (ms0_10 ptZ) (hs0_10 ptZ) (ms0_11 ptZ) (hs0_11 ptZ) (ms0_12 ptZ) (hs0_12 ptZ) (ms0_13 ptZ) (hs0_13 ptZ) (ms0_14 ptZ) (hs0_14 ptZ) (ms0_15 ptZ) (hs0_15 ptZ) (ms0_16 ptZ) (hs0_16 ptZ) (ms0_17 ptZ) (hs0_17 ptZ) (ms0_18 ptZ) (hs0_18 ptZ) (ms0_19 ptZ) (hs0_19 ptZ) (ms0_20 ptZ) (hs0_20 ptZ) (ms0_21 ptZ) (hs0_21 ptZ) (ms0_22 ptZ) (hs0_22 ptZ) (ms0_23 ptZ) (hs0_23 ptZ) scM0_0 (Memref.isWhole_whole _) scM0_1 (Memref.isWhole_whole _) (fun h' => by have := (hcond0_0 ptZ).mp h'; omega) (fun h' => by have := (hcond0_1 ptZ).mp h'; omega) ((hcond0_2 ptZ).mpr h) (iblk m c 7 ptZ) (iblk m c 8 ptZ) (iblk m c 17 ptZ) (iblk m c 18 ptZ) (iblk m c 19 ptZ) (iblk m c 20 ptZ) (iblk m c 21 ptZ) (iblk m c 22 ptZ) (PAIR m c) _).2 Set.univ _)
  isplitl [H7]; · iexact H7
  isplitl [H8]; · iexact H8
  isplitl [H17]; · iexact H17
  isplitl [H18]; · iexact H18
  isplitl [H19]; · iexact H19
  isplitl [H20]; · iexact H20
  isplitl [H21]; · iexact H21
  isplitl [H22]; · iexact H22
  isplitl [HS1]; · iexact HS1
  isplitl [H23]; · iexact H23
  iintro ⟨H7, H8, H17, H18, H19, H20, H21, H22, HS1, H23⟩
  isplitl [HS0 HS1 Hg]
  · iexists (JD m c), (PAIR m c)
    isplitr; · ipureintro; exact ⟨fun _ => rfl, fun _ _ => rfl⟩
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact runC_read c (grid0.coords ptZ) (ms0_0 ptZ) (hs0_0 ptZ) (ms0_1 ptZ) (hs0_1 ptZ) (ms0_2 ptZ) (hs0_2 ptZ) (ms0_3 ptZ) (hs0_3 ptZ) (ms0_4 ptZ) (hs0_4 ptZ) (ms0_5 ptZ) (hs0_5 ptZ) (ms0_6 ptZ) (hs0_6 ptZ) (ms0_7 ptZ) (hs0_7 ptZ) (ms0_8 ptZ) (hs0_8 ptZ) (ms0_9 ptZ) (hs0_9 ptZ) (ms0_10 ptZ) (hs0_10 ptZ) (ms0_11 ptZ) (hs0_11 ptZ) (ms0_12 ptZ) (hs0_12 ptZ) (ms0_13 ptZ) (hs0_13 ptZ) (ms0_14 ptZ) (hs0_14 ptZ) (ms0_15 ptZ) (hs0_15 ptZ) (ms0_16 ptZ) (hs0_16 ptZ) (ms0_17 ptZ) (hs0_17 ptZ) (ms0_18 ptZ) (hs0_18 ptZ) (ms0_19 ptZ) (hs0_19 ptZ) (ms0_20 ptZ) (hs0_20 ptZ) (ms0_21 ptZ) (hs0_21 ptZ) (ms0_22 ptZ) (hs0_22 ptZ) (ms0_23 ptZ) (hs0_23 ptZ) scM0_0 (Memref.isWhole_whole _) scM0_1 (Memref.isWhole_whole _) (fun h' => by have := (hcond0_0 ptZ).mp h'; omega) (fun h' => by have := (hcond0_1 ptZ).mp h'; omega) ((hcond0_2 ptZ).mpr h) (iblk m c 7 ptZ) (iblk m c 8 ptZ) (iblk m c 17 ptZ) (iblk m c 18 ptZ) (iblk m c 19 ptZ) (iblk m c 20 ptZ) (iblk m c 21 ptZ) (iblk m c 22 ptZ) (PAIR m c) _

/-- The body at any point. -/
theorem sound_body (c : Dev nD) (t : Fin cfg0.N) :
    bodyPre m c t ⊢ wp frame (wpE (defs₀ (F := F)) Variants.none c none) Set.univ (bodyAt0 t) (fun _ => bodyPost m c t) := by
  have ht := lt_N t
  by_cases h0 : t.val = 0
  · exact sound_A m c t h0
  by_cases h2 : t.val = 129
  · exact sound_C m c t h2
  exact sound_B m c t ⟨by omega, by omega⟩

end Cert.KernelIdeal.Hand
-- ==== Proof.KernelIdeal.Launch.lean ====
module

public import proofs.«01_k».proof.Proof.KernelIdeal.Body

/-! The launch: what every run of the program ends with. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body table's row at point `t`'s slots. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, HS0⟩, ⟨%d1, HS1⟩⟩, Hg⟩
  iexists d0, d1
  isplitr; · ipureintro; exact known_zero m c d0 d1
  isplitl [HS0]; · iexact HS0
  isplitl [HS1]; · iexact HS1
  iexact Hg

/-- The invariant after the last point is what the launch takes back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%d0, %d1, %hk, HS0, HS1, Hg⟩
  isplitl [HS0 HS1]
  · isplitl [HS0]
    · iexists _; iexact HS0
    iexists _; iexact HS1
  iexact Hg

set_option backward.isDefEq.respectTransparency.types false in
set_option maxHeartbeats 800000 in
/-- Every run ends with the arrays as the proof data say and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (frame_of m ρ (dats m) (A_eq m) (run_main m ρ)) ((θ_run defs _ _).mono (fun _ h => h.2) (run_main_quiescent m ρ))

end Cert.KernelIdeal.Hand
-- ==== Proof.Frames.lean ====
module

public import proofs.«01_k».proof.Defs
public import proofs.«01_k».proof.Proof.Kernel.Launch
public import proofs.«01_k».proof.Proof.KernelIdeal.Launch
public import proofs.«01_k».proof.Proof.Gen.ReferenceIdeal.Run

/-! The claims that state no value: the three programs run and leave their arguments as they were, and naming the
constant `1/√2` is the one change from the kernel to its idealized form. -/

@[expose] public section

noncomputable section

namespace Cert.Proof

open Idealize.ShloMosaic Idealize.SL.Sem

/-- The kernel as printed runs, over the float words, and leaves its arguments unchanged. -/
theorem frame_kernel : Cert.quiescent_Kernel := fun m ρ _ => Cert.Kernel.Hand.frame m ρ

/-- The idealized kernel runs and leaves its arguments unchanged. -/
theorem frame_kernelIdeal : Cert.quiescent_KernelIdeal := fun m ρ _ => Cert.KernelIdeal.Hand.frame m ρ

/-- The idealized reference runs and leaves its arguments unchanged. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant `1/√2` is named, and nothing else changes. -/
theorem preserves : Cert.preserves_Kernel_KernelIdeal :=
  IdealRules.named_const.statement Cert.KernelIdeal.κ "rsqrt2" .f32 0x3F3504F3#32 (((Real.sqrt 2)⁻¹ : ℝ) : EReal) rfl

end Cert.Proof

end
-- ==== Proof.Spec.lean ====
module

public import Idealize.ShloMosaic.PureOps.Ideal.Laws
public import Idealize.ShloMosaic.Lib.Pointwise.Index

/-! The mathematics that both programs compute, over the extended reals: two dense layers and a group normalisation, the
convolution over all pairs of points, and two more layers with their normalisation. -/

@[expose] public section

noncomputable section

namespace Cert.Spec

open Idealize.ShloMosaic

/-- The leaky rectifier of slope 0.2 (the float nearest to it). -/
def leak (x : EReal) : EReal := if 0 ≤ x then x else Ideal.ofBits .f32 0x3E4CCCCD#32 * x

/-- A dense layer and the rectifier, output channel by point. -/
def layer {O K : ℕ} (W : Fin O → Fin K → EReal) (b : Fin O → EReal) (x : Fin K → Fin 2048 → EReal) (o : Fin O)
    (n : Fin 2048) : EReal :=
  leak (∑ k, W o k * x k n + b o)

/-- The mean of `P` channels over all points, `D` being their number. -/
def mean {P : ℕ} (D : EReal) (s : Fin P → Fin 2048 → EReal) : EReal := Ideal.div (∑ r, ∑ n, s r n) D

/-- The mean of the squares of the distances to the mean. -/
def var {P : ℕ} (D : EReal) (s : Fin P → Fin 2048 → EReal) : EReal :=
  mean D fun r n => (s r n - mean D s) * (s r n - mean D s)

/-- A group of channels less its mean, over the root of its variance and a small number. -/
def normed {P : ℕ} (D : EReal) (s : Fin P → Fin 2048 → EReal) (r : Fin P) (n : Fin 2048) : EReal :=
  Ideal.div (s r n - mean D s) (Ideal.sqrt (var D s + Ideal.ofBits .f32 0x3727C5AC#32))

/-- The channels of group `q`, of the four. -/
def members {C : ℕ} (P : ℕ) (h : 4 * P = C) (x : Fin C → Fin 2048 → EReal) (q : Fin 4) (r : Fin P) (n : Fin 2048) : EReal :=
  x ⟨P * q.val + r.val, by
    have := q.isLt; have := r.isLt
    calc P * q.val + r.val < P * q.val + P := by omega
      _ = P * (q.val + 1) := by ring
      _ ≤ P * 4 := Nat.mul_le_mul_left _ (by omega)
      _ = C := by omega⟩ n

/-- Group normalisation of eight channels in four groups of two. -/
def gnorm8 (x : Fin 8 → Fin 2048 → EReal) (g be : Fin 8 → EReal) (o : Fin 8) (n : Fin 2048) : EReal :=
  normed (Ideal.ofBits .f32 0x45800000#32) (members 2 rfl x ⟨o.val / 2, by omega⟩) ⟨o.val % 2, by omega⟩ n * g o + be o

/-- Group normalisation of sixteen channels in four groups of four. -/
def gnorm16 (x : Fin 16 → Fin 2048 → EReal) (g be : Fin 16 → EReal) (o : Fin 16) (n : Fin 2048) : EReal :=
  normed (Ideal.ofBits .f32 0x46000000#32) (members 4 rfl x ⟨o.val / 4, by omega⟩) ⟨o.val % 4, by omega⟩ n * g o + be o

/-- The difference of the coordinates `k` of points `j` and `i`. -/
def diff (p : Fin 3 → Fin 2048 → EReal) (i j : Fin 2048) (k : Fin 3) : EReal := p k j - p k i

/-- The squared distance of points `i` and `j`. -/
def sq (p : Fin 3 → Fin 2048 → EReal) (i j : Fin 2048) : EReal :=
  diff p i j 0 * diff p i j 0 + diff p i j 1 * diff p i j 1 + diff p i j 2 * diff p i j 2

/-- Two less the product of the normals of points `i` and `j`. -/
def turn (ν : Fin 9 → Fin 2048 → EReal) (i j : Fin 2048) : EReal :=
  Ideal.ofBits .f32 0x40000000#32 - (ν 0 i * ν 0 j + ν 1 i * ν 1 j + ν 2 i * ν 2 j)

/-- The weight of point `j` in the window about point `i`. -/
def window (p : Fin 3 → Fin 2048 → EReal) (ν : Fin 9 → Fin 2048 → EReal) (i j : Fin 2048) : EReal :=
  Ideal.exp (-(sq p i j * turn ν i j * turn ν i j))

/-- Coordinate `k` of point `j` in the frame of point `i`. -/
def loc (p : Fin 3 → Fin 2048 → EReal) (ν : Fin 9 → Fin 2048 → EReal) (i j : Fin 2048) (k : Fin 3) : EReal :=
  ν ⟨3 * k.val, by omega⟩ i * diff p i j 0 + ν ⟨3 * k.val + 1, by omega⟩ i * diff p i j 1
    + ν ⟨3 * k.val + 2, by omega⟩ i * diff p i j 2

/-- A layer of the filter. -/
def hid {K : ℕ} (W : Fin 8 → Fin K → EReal) (b : Fin 8 → EReal) (x : Fin K → EReal) (o : Fin 8) : EReal :=
  max (∑ k, W o k * x k + b o) 0

/-- The convolution: over all points `j`, the weight times the filter times the feature. -/
def conv (p : Fin 3 → Fin 2048 → EReal) (ν : Fin 9 → Fin 2048 → EReal) (W1 : Fin 8 → Fin 3 → EReal) (b1 : Fin 8 → EReal)
    (W2 : Fin 8 → Fin 8 → EReal) (b2 : Fin 8 → EReal) (f : Fin 8 → Fin 2048 → EReal) (o : Fin 8) (i : Fin 2048) : EReal :=
  ∑ j, window p ν i j * hid W2 b2 (hid W1 b1 (loc p ν i j)) o * f o j

/-- One over the root of two, by which the coordinates are scaled. -/
abbrev rsqrt2 : EReal := (((Real.sqrt 2)⁻¹ : ℝ) : EReal)

/-- The whole computation, of the nineteen arrays: coordinates, frames, features; the input network's two layers and its
normalisation; the filter's two layers; the output network's two layers and its normalisation. -/
def result (x0 : FVec Ideal ⟨3, ![1, 2048, 3]⟩ .f32) (x1 : FVec Ideal ⟨4, ![1, 2048, 3, 3]⟩ .f32)
    (x2 : FVec Ideal ⟨3, ![1, 2048, 16]⟩ .f32) (x3 : FVec Ideal ⟨2, ![8, 16]⟩ .f32) (x4 : FVec Ideal ⟨1, ![8]⟩ .f32)
    (x5 : FVec Ideal ⟨2, ![8, 8]⟩ .f32) (x6 x7 x8 : FVec Ideal ⟨1, ![8]⟩ .f32) (x9 : FVec Ideal ⟨2, ![8, 3]⟩ .f32)
    (x10 : FVec Ideal ⟨1, ![8]⟩ .f32) (x11 : FVec Ideal ⟨2, ![8, 8]⟩ .f32) (x12 : FVec Ideal ⟨1, ![8]⟩ .f32)
    (x13 : FVec Ideal ⟨2, ![16, 8]⟩ .f32) (x14 : FVec Ideal ⟨1, ![16]⟩ .f32) (x15 : FVec Ideal ⟨2, ![16, 16]⟩ .f32)
    (x16 x17 x18 : FVec Ideal ⟨1, ![16]⟩ .f32) : FVec Ideal ⟨3, ![1, 2048, 16]⟩ .f32 := fun y =>
  gnorm16
    (layer (fun o k => x15 (ix2 o k)) (fun o => x16 (ix1 o))
      (layer (fun o k => x13 (ix2 o k)) (fun o => x14 (ix1 o))
        (conv (fun k n => x0 (ix3 0 n k) * rsqrt2)
          (fun k n => x1 (ix4 0 n ⟨k.val / 3, by omega⟩ ⟨k.val % 3, by omega⟩))
          (fun o k => x9 (ix2 o k)) (fun o => x10 (ix1 o)) (fun o k => x11 (ix2 o k)) (fun o => x12 (ix1 o))
          (gnorm8
            (layer (fun o k => x5 (ix2 o k)) (fun o => x6 (ix1 o))
              (layer (fun o k => x3 (ix2 o k)) (fun o => x4 (ix1 o)) fun k n => x2 (ix3 0 n k)))
            (fun o => x7 (ix1 o)) (fun o => x8 (ix1 o))))))
    (fun o => x17 (ix1 o)) (fun o => x18 (ix1 o)) (y 2) (y 1)

end Cert.Spec

end
-- ==== Proof.KernelIdeal.NetValue.lean ====
module

public import proofs.«01_k».proof.Proof.KernelIdeal.Blocks
public import proofs.«01_k».proof.Proof.Spec
public import Idealize.ShloMosaic.Lib.Pointwise

/-! What the kernel's two networks hold at an index, over the extended reals. -/

@[expose] public section

set_option maxRecDepth 16384

noncomputable section

namespace Cert.KernelIdeal.Hand

open Idealize.ShloMosaic

/-- A rank-two array as a function of its two coordinates. -/
abbrev fn2 {a b : ℕ} {φ : FTy} (x : FVec Ideal (⟨2, ![a, b]⟩ : Shape) φ) (i : Fin a) (j : Fin b) : EReal := x (ix2 i j)

/-- A column as a function of its row. -/
abbrev fn1 {a : ℕ} {φ : FTy} (x : FVec Ideal (⟨2, ![a, 1]⟩ : Shape) φ) (i : Fin a) : EReal := x (ix2 i 0)

/-- The input network's dense layers. -/
theorem inLayers_apply (feat : FVec Ideal S2048x16 .f32) (W1 : FVec Ideal S8x16 .f32) (b1 : FVec Ideal S8x1 .f32)
    (W2 : FVec Ideal S8x8 .f32) (b2 : FVec Ideal S8x1 .f32) (o : Fin 8) (n : Fin 2048) :
    leaky (inDense2 (leaky (inDense1 feat W1 b1)) W2 b2) (ix2 o n)
      = Spec.layer (fn2 W2) (fn1 b2) (Spec.layer (fn2 W1) (fn1 b1) (fun k n => feat (ix2 n k))) o n := by
  pointwise [leaky, inDense2, inDense1]
  rfl

/-- The output network's dense layers. -/
theorem outLayers_apply (x : FVec Ideal S8x2048 .f32) (W1 : FVec Ideal S16x8 .f32) (b1 : FVec Ideal S16x1 .f32)
    (W2 : FVec Ideal S16x16 .f32) (b2 : FVec Ideal S16x1 .f32) (o : Fin 16) (n : Fin 2048) :
    leaky (outDense2 (leaky (outDense1 x W1 b1)) W2 b2) (ix2 o n)
      = Spec.layer (fn2 W2) (fn1 b2) (Spec.layer (fn2 W1) (fn1 b1) (fn2 x)) o n := by
  pointwise [leaky, outDense2, outDense1]
  rfl

/-- The mean of two channels. -/
theorem mean2_eq (s : FVec Ideal S2x2048 .f32) : mean2 s = Spec.mean (Ideal.ofBits .f32 0x45800000#32) (fn2 s) := by
  pointwise [mean2]
  rfl

/-- Two channels normalised. -/
theorem norm2_apply (s : FVec Ideal S2x2048 .f32) (r : Fin 2) (n : Fin 2048) :
    norm2 s (ix2 r n) = Spec.normed (Ideal.ofBits .f32 0x45800000#32) (fn2 s) r n := by
  pointwise [norm2, centred2]
  rw [mean2_eq, mean2_eq]
  rfl

/-- The mean of four channels. -/
theorem mean4_eq (s : FVec Ideal S4x2048 .f32) : mean4 s = Spec.mean (Ideal.ofBits .f32 0x46000000#32) (fn2 s) := by
  pointwise [mean4]
  rfl

/-- Four channels normalised. -/
theorem norm4_apply (s : FVec Ideal S4x2048 .f32) (r : Fin 4) (n : Fin 2048) :
    norm4 s (ix2 r n) = Spec.normed (Ideal.ofBits .f32 0x46000000#32) (fn2 s) r n := by
  pointwise [norm4, centred4]
  rw [mean4_eq, mean4_eq]
  rfl

/-- Two neighbouring channels, normalised, are their group of the four. -/
theorem norm2_slice {off : Fin 2 → ℕ} (x : FVec Ideal S8x2048 .f32) (h : S8x2048.Slices off S2x2048) (q : Fin 4)
    (hq : off = ![2 * q.val, 0]) (r : Fin 2) (n : Fin 2048) :
    norm2 (extractStridedSlice S2x2048 off x h) (ix2 r n)
      = Spec.normed (Ideal.ofBits .f32 0x45800000#32) (Spec.members 2 rfl (fn2 x) q) r n := by
  subst hq
  rw [norm2_apply]
  congr 1
  funext r n
  pointwise [Spec.members]
  done

/-- Four neighbouring channels, normalised, are their group of the four. -/
theorem norm4_slice {off : Fin 2 → ℕ} (x : FVec Ideal S16x2048 .f32) (h : S16x2048.Slices off S4x2048) (q : Fin 4)
    (hq : off = ![4 * q.val, 0]) (r : Fin 4) (n : Fin 2048) :
    norm4 (extractStridedSlice S4x2048 off x h) (ix2 r n)
      = Spec.normed (Ideal.ofBits .f32 0x46000000#32) (Spec.members 4 rfl (fn2 x) q) r n := by
  subst hq
  rw [norm4_apply]
  congr 1
  funext r n
  pointwise [Spec.members]
  done

/-- The input network's normalisation. -/
theorem inNorm_apply (x : FVec Ideal S8x2048 .f32) (g be : FVec Ideal S8x1 .f32) (o : Fin 8) (n : Fin 2048) :
    inNorm x g be (ix2 o n) = Spec.gnorm8 (fn2 x) (fn1 g) (fn1 be) o n := by
  pointwise [inNorm]
  simp only [norm2_slice x Gen.slices_S8x2048_o0_0_S2x2048 0 rfl, norm2_slice x Gen.slices_S8x2048_o2_0_S2x2048 1 rfl,
    norm2_slice x Gen.slices_S8x2048_o4_0_S2x2048 2 rfl, norm2_slice x Gen.slices_S8x2048_o6_0_S2x2048 3 rfl]
  fin_cases o
  all_goals rfl

/-- The output network's normalisation. -/
theorem outNorm_apply (x : FVec Ideal S16x2048 .f32) (g be : FVec Ideal S16x1 .f32) (o : Fin 16) (n : Fin 2048) :
    outNorm x g be (ix2 o n) = Spec.gnorm16 (fn2 x) (fn1 g) (fn1 be) o n := by
  pointwise [outNorm]
  simp only [norm4_slice x Gen.slices_S16x2048_o0_0_S4x2048 0 rfl, norm4_slice x Gen.slices_S16x2048_o4_0_S4x2048 1 rfl,
    norm4_slice x Gen.slices_S16x2048_o8_0_S4x2048 2 rfl, norm4_slice x Gen.slices_S16x2048_o12_0_S4x2048 3 rfl]
  fin_cases o
  all_goals rfl

/-- The input network. -/
theorem inNet_apply (feat : FVec Ideal S2048x16 .f32) (W1 : FVec Ideal S8x16 .f32) (b1 : FVec Ideal S8x1 .f32)
    (W2 : FVec Ideal S8x8 .f32) (b2 g be : FVec Ideal S8x1 .f32) (o : Fin 8) (n : Fin 2048) :
    inNet feat W1 b1 W2 b2 g be (ix2 o n)
      = Spec.gnorm8 (Spec.layer (fn2 W2) (fn1 b2) (Spec.layer (fn2 W1) (fn1 b1) (fun k n => feat (ix2 n k))))
          (fn1 g) (fn1 be) o n := by
  rw [inNet, inNorm_apply]
  congr 1
  funext o n
  exact inLayers_apply ..

/-- The output network. -/
theorem outNet_apply (x : FVec Ideal S8x2048 .f32) (W1 : FVec Ideal S16x8 .f32) (b1 : FVec Ideal S16x1 .f32)
    (W2 : FVec Ideal S16x16 .f32) (b2 g be : FVec Ideal S16x1 .f32) (o : Fin 16) (n : Fin 2048) :
    outNet x W1 b1 W2 b2 g be (ix2 o n)
      = Spec.gnorm16 (Spec.layer (fn2 W2) (fn1 b2) (Spec.layer (fn2 W1) (fn1 b1) (fn2 x))) (fn1 g) (fn1 be) o n := by
  rw [outNet, outNorm_apply]
  congr 1
  funext o n
  exact outLayers_apply ..

end Cert.KernelIdeal.Hand

end
-- ==== Proof.KernelIdeal.PairValue.lean ====
module

public import proofs.«01_k».proof.Proof.KernelIdeal.NetValue

/-! What one block of the convolution holds at an index, over the extended reals: the Kronecker weights act on each of the
sixteen rows alone, and the chunks of lanes make up all the points. -/

@[expose] public section

set_option maxRecDepth 16384

noncomputable section

namespace Cert.KernelIdeal.Hand

open Cert.KernelIdeal.Gen
open Idealize.ShloMosaic

/-- A sum against one row of a matrix and the identity of size sixteen, in Kronecker product: only the entries at its own
place among the sixteen remain. -/
theorem sum_kron {n N : ℕ} (hN : N = n * 16) (w X : Fin N → EReal) (A : Fin n → EReal) (i : Fin 16)
    (h : ∀ (k : Fin n) (j : Fin 16), w ⟨16 * k.val + j.val, by omega⟩ = A k * if i = j then 1 else 0) :
    ∑ x, w x * X x = ∑ k : Fin n, A k * X ⟨16 * k.val + i.val, by omega⟩ := by
  subst hN
  rw [← Equiv.sum_comp finProdFinEquiv, Fintype.sum_prod_type]
  refine Finset.sum_congr rfl fun k _ => ?_
  have e : ∀ j : Fin 16, (finProdFinEquiv (k, j) : Fin (n * 16)) = ⟨16 * k.val + j.val, by omega⟩ := fun j =>
    Fin.ext (by simp [finProdFinEquiv]; omega)
  rw [Finset.sum_eq_single i]
  · rw [e, h, if_pos rfl, mul_one]
  · intro j _ hj
    rw [e, h, if_neg (Ne.symm hj), mul_zero, zero_mul]
  · intro hi
    exact absurd (Finset.mem_univ i) hi

/-- The stack of local coordinates and ones, at row `i` of part `k`. -/
theorem stack3_apply (u v w : FVec Ideal S16x256 .f32) (k : Fin 4) (i : Fin 16) (l : Fin 256) :
    stack3 u v w (ix2 ⟨16 * k.val + i.val, by omega⟩ l)
      = (![u (ix2 i l), v (ix2 i l), w (ix2 i l), 1] : Fin 4 → EReal) k := by
  pointwise [stack3, onesRow]
  have hi := i.isLt
  fin_cases k
  all_goals
    repeat' first
      | rw [dif_pos (by dsimp only; omega)]
      | rw [dif_neg (by dsimp only; omega)]
  · exact congrArg (fun j => u (ix2 j l)) (Fin.ext (by dsimp only; omega))
  · exact congrArg (fun j => v (ix2 j l)) (Fin.ext (by dsimp only; omega))
  · exact congrArg (fun j => w (ix2 j l)) (Fin.ext (by dsimp only; omega))
  · rfl

/-- The table, at row `i` of part `r`. -/
theorem table_apply (x n : FVec Ideal S3x2048 .f32) (f : FVec Ideal S8x2048 .f32) (r : Fin 14) (i : Fin 16) (p : Fin 2048) :
    table x n f (ix2 ⟨16 * r.val + i.val, by omega⟩ p)
      = (![x (ix2 0 p), x (ix2 1 p), x (ix2 2 p), n (ix2 0 p), n (ix2 1 p), n (ix2 2 p), f (ix2 0 p), f (ix2 1 p),
          f (ix2 2 p), f (ix2 3 p), f (ix2 4 p), f (ix2 5 p), f (ix2 6 p), f (ix2 7 p)] : Fin 14 → EReal) r := by
  have hi := i.isLt
  pointwise [table, rep]
  fin_cases r
  all_goals
    repeat' first
      | rw [dif_pos (by dsimp only; omega)]
      | rw [dif_neg (by dsimp only; omega)]
  all_goals rfl

/-- Column `k` of the block of coordinates. -/
theorem colP_apply (x : FVec Ideal S16x3 .f32) (k : Fin 3) (i : Fin 16) : colP x k (ix2 i 0) = x (ix2 i k) := by
  refine congrArg x (funext fun a => Fin.ext ?_)
  fin_cases a <;> simp [Rect.unit, Rect.emb]

/-- Column `k` of the block of frames. -/
theorem colN_apply (x : FVec Ideal S16x9 .f32) (k : Fin 9) (i : Fin 16) : colN x k (ix2 i 0) = x (ix2 i k) := by
  refine congrArg x (funext fun a => Fin.ext ?_)
  fin_cases a <;> simp [Rect.unit, Rect.emb]

/-- The point at lane `l` of chunk `b`. -/
def lane (b : Fin 8) (l : Fin 256) : Fin 2048 := ⟨256 * b.val + l.val, by omega⟩

/-- A tile of the table, at an index. -/
theorem tile_apply (d : FVec Ideal S224x2048 .f32) (r : Fin 14) (b : Fin 8) (i : Fin 16) (l : Fin 256) :
    tile d r b (ix2 i l) = d (ix2 ⟨16 * r.val + i.val, by omega⟩ (lane b l)) := by
  refine congrArg d (funext fun a => Fin.ext ?_)
  fin_cases a <;> simp [Rect.unit, Rect.emb, lane]

/-- The named constant is one over the root of two. -/
theorem named_rsqrt2 : Named.named (F := Ideal) (φ := .f32) κ "rsqrt2" 0x3F3504F3#32 = Spec.rsqrt2 :=
  IdealRules.named_const.ideal_named_scalar _ _ _ _ rfl

/-- What the operands of a block hold: the scaled coordinates `p`, the frames `ν` and the features `φ` of all points, the
block being of the points `pt`; and the two filter matrices, each the Kronecker product of a layer and the identity. -/
structure Reads (x3 : FVec Ideal S16x3 .f32) (x4 : FVec Ideal S16x9 .f32) (w1 : FVec Ideal S128x64 .bf16)
    (w2 : FVec Ideal S128x144 .bf16) (X N : FVec Ideal S3x2048 .f32) (f : FVec Ideal S8x2048 .f32)
    (pt : Fin 16 → Fin 2048) (p : Fin 3 → Fin 2048 → EReal) (ν : Fin 9 → Fin 2048 → EReal)
    (W1 : Fin 8 → Fin 3 → EReal) (b1 : Fin 8 → EReal) (W2 : Fin 8 → Fin 8 → EReal) (b2 : Fin 8 → EReal) (φ : Fin 8 → Fin 2048 → EReal) : Prop where
  rx3 : ∀ i k, x3 (ix2 i k) * Spec.rsqrt2 = p k (pt i)
  rx4 : ∀ i k, x4 (ix2 i k) = ν k (pt i)
  rX : ∀ k n, X (ix2 k n) = p k n
  rN : ∀ (k : Fin 3) n, N (ix2 k n) = ν ⟨k.val, by omega⟩ n
  rf : ∀ o n, f (ix2 o n) = φ o n
  rw1 : ∀ (o : Fin 8) (i : Fin 16) (k : Fin 4) (j : Fin 16),
    w1 (ix2 ⟨16 * o.val + i.val, by omega⟩ ⟨16 * k.val + j.val, by omega⟩)
      = (![W1 o 0, W1 o 1, W1 o 2, b1 o] : Fin 4 → EReal) k * if i = j then 1 else 0
  rw2 : ∀ (o : Fin 8) (i : Fin 16) (k : Fin 8) (j : Fin 16),
    w2 (ix2 ⟨16 * o.val + i.val, by omega⟩ ⟨16 * k.val + j.val, by omega⟩) = W2 o k * if i = j then 1 else 0
  rb2 : ∀ (o : Fin 8) (i : Fin 16) (j : Fin 16),
    w2 (ix2 ⟨16 * o.val + i.val, by omega⟩ ⟨128 + j.val, by omega⟩) = b2 o * if i = j then 1 else 0

variable {x3 : FVec Ideal S16x3 .f32} {x4 : FVec Ideal S16x9 .f32} {w1 : FVec Ideal S128x64 .bf16}
  {w2 : FVec Ideal S128x144 .bf16} {X N : FVec Ideal S3x2048 .f32} {f : FVec Ideal S8x2048 .f32}
  {pt : Fin 16 → Fin 2048} {p : Fin 3 → Fin 2048 → EReal} {ν : Fin 9 → Fin 2048 → EReal}
  {W1 : Fin 8 → Fin 3 → EReal} {b1 : Fin 8 → EReal} {W2 : Fin 8 → Fin 8 → EReal} {b2 : Fin 8 → EReal}
  {φ : Fin 8 → Fin 2048 → EReal}

/-- The scaled difference in a coordinate. -/
theorem delta_apply (R : Reads x3 x4 w1 w2 X N f pt p ν W1 b1 W2 b2 φ) (b : Fin 8) (k : Fin 3) (i : Fin 16) (l : Fin 256) :
    delta x3 (table X N f) b k (ix2 i l) = Spec.diff p (pt i) (lane b l) k := by
  pointwise [delta, wide, k0_pay23]
  rw [tile_apply, table_apply, colP_apply, named_rsqrt2, R.rx3, Spec.diff]
  fin_cases k <;> exact congrArg (· - _) (R.rX _ _)

/-- The squared distance. -/
theorem sqDist_apply (R : Reads x3 x4 w1 w2 X N f pt p ν W1 b1 W2 b2 φ) (b : Fin 8) (i : Fin 16) (l : Fin 256) :
    sqDist x3 (table X N f) b (ix2 i l) = Spec.sq p (pt i) (lane b l) := by
  pointwise [sqDist]
  rw [delta_apply R, delta_apply R, delta_apply R, Spec.sq]

/-- Two less the product of the normals. -/
theorem turn_apply (R : Reads x3 x4 w1 w2 X N f pt p ν W1 b1 W2 b2 φ) (b : Fin 8) (i : Fin 16) (l : Fin 256) :
    turn x4 (table X N f) b (ix2 i l) = Spec.turn ν (pt i) (lane b l) := by
  pointwise [turn, wide, k0_pay26]
  rw [tile_apply, tile_apply, tile_apply, table_apply, table_apply, table_apply, colN_apply, colN_apply, colN_apply, R.rx4,
    R.rx4, R.rx4, Spec.turn]
  rw [← show N (ix2 0 (lane b l)) = ν 0 (lane b l) from R.rN 0 _, ← show N (ix2 1 (lane b l)) = ν 1 (lane b l) from R.rN 1 _,
    ← show N (ix2 2 (lane b l)) = ν 2 (lane b l) from R.rN 2 _]
  rfl

/-- The weight of the window. -/
theorem weight_apply (R : Reads x3 x4 w1 w2 X N f pt p ν W1 b1 W2 b2 φ) (b : Fin 8) (i : Fin 16) (l : Fin 256) :
    weight x3 x4 (table X N f) b (ix2 i l) = Spec.window p ν (pt i) (lane b l) := by
  pointwise [weight]
  rw [sqDist_apply R, turn_apply R, zero_sub, Spec.window]

/-- The stack of chunk `b`: the three local coordinates and one. -/
theorem stacked_apply (R : Reads x3 x4 w1 w2 X N f pt p ν W1 b1 W2 b2 φ) (b : Fin 8) (k : Fin 4) (i : Fin 16) (l : Fin 256) :
    stacked x3 x4 (table X N f) b (ix2 ⟨16 * k.val + i.val, by omega⟩ l)
      = (![Spec.loc p ν (pt i) (lane b l) 0, Spec.loc p ν (pt i) (lane b l) 1, Spec.loc p ν (pt i) (lane b l) 2, 1] :
          Fin 4 → EReal) k := by
  have h : ∀ q r s : Fin 9, along x3 x4 (table X N f) b q r s (ix2 i l)
      = ν q (pt i) * Spec.diff p (pt i) (lane b l) 0 + ν r (pt i) * Spec.diff p (pt i) (lane b l) 1
        + ν s (pt i) * Spec.diff p (pt i) (lane b l) 2 := fun q r s => by
    pointwise [along, locOf, wide, k0_pay26]
    rw [delta_apply R, delta_apply R, delta_apply R, colN_apply, colN_apply, colN_apply, R.rx4, R.rx4, R.rx4]
  rw [stacked, stack3_apply, h, h, h]
  rfl

/-- The first layer of the filter. -/
theorem filt1_apply (R : Reads x3 x4 w1 w2 X N f pt p ν W1 b1 W2 b2 φ) (b : Fin 8) (o : Fin 8) (i : Fin 16) (l : Fin 256) :
    filt1 (k0_pay35 w1) (stacked x3 x4 (table X N f) b) (ix2 ⟨16 * o.val + i.val, by omega⟩ l)
      = Spec.hid W1 b1 (Spec.loc p ν (pt i) (lane b l)) o := by
  pointwise [filt1, k0_pay35]
  rw [sum_kron (n := 4) rfl _ _ _ i (R.rw1 o i), Spec.hid, Fin.sum_univ_three, Fin.sum_univ_four, stacked_apply R,
    stacked_apply R, stacked_apply R, stacked_apply R]
  simp

/-- The second layer of the filter. -/
theorem filt_apply (R : Reads x3 x4 w1 w2 X N f pt p ν W1 b1 W2 b2 φ) (b : Fin 8) (o : Fin 8) (i : Fin 16) (l : Fin 256) :
    filt x3 x4 w1 w2 (table X N f) b (ix2 ⟨16 * o.val + i.val, by omega⟩ l)
      = Spec.hid W2 b2 (Spec.hid W1 b1 (Spec.loc p ν (pt i) (lane b l))) o := by
  pointwise [filt, filt2, k0_pay36, onesRow]
  rw [sum_kron (n := 8) rfl _ _ _ i (R.rw2 o i), Spec.hid]
  simp only [filt1_apply R, R.rb2 o i]
  simp

/-- What chunk `b` adds to channel `h`. -/
theorem term_apply (R : Reads x3 x4 w1 w2 X N f pt p ν W1 b1 W2 b2 φ) (h b : Fin 8) (i : Fin 16) (l : Fin 256) :
    term x3 x4 w1 w2 (table X N f) h b (ix2 i l)
      = Spec.window p ν (pt i) (lane b l) * Spec.hid W2 b2 (Spec.hid W1 b1 (Spec.loc p ν (pt i) (lane b l))) h
          * φ h (lane b l) := by
  pointwise [term]
  rw [weight_apply R, tile_apply, table_apply, filt_apply R]
  congr 1
  fin_cases h <;> exact R.rf _ _

/-- The accumulator after `n` chunks is the sum of what they add. -/
theorem accum_apply (h : Fin 8) (d : FVec Ideal S224x2048 .f32) (n : ℕ) (i : Fin 16) (l : Fin 256) :
    accum x3 x4 w1 w2 d h n (ix2 i l) = ∑ b ∈ Finset.range n, term x3 x4 w1 w2 d h (Fin.ofNat 8 b) (ix2 i l) := by
  induction n with
  | zero => pointwise [accum]
            rfl
  | succ n ih =>
    rw [Finset.sum_range_succ, ← ih]
    rfl

/-- The lanes of all eight chunks are the points. -/
theorem sum_lanes (T : Fin 2048 → EReal) : ∑ l : Fin 256, ∑ b : Fin 8, T (lane b l) = ∑ j, T j := by
  rw [Finset.sum_comm, ← Fintype.sum_prod_type', ← Equiv.sum_comp (finProdFinEquiv : Fin 8 × Fin 256 ≃ Fin 2048)]
  refine Finset.sum_congr rfl fun q _ => congrArg T (Fin.ext ?_)
  simp [finProdFinEquiv, lane]
  omega

/-- A row of the convolution. -/
theorem laneSum_accum (R : Reads x3 x4 w1 w2 X N f pt p ν W1 b1 W2 b2 φ) (h : Fin 8) (i : Fin 16) :
    laneSum (accum x3 x4 w1 w2 (table X N f) h 8) (ix2 i 0) = Spec.conv p ν W1 b1 W2 b2 φ h (pt i) := by
  pointwise [laneSum]
  rw [Spec.conv, ← sum_lanes]
  refine Finset.sum_congr rfl fun l _ => ?_
  rw [accum_apply, Finset.sum_range]
  refine Finset.sum_congr rfl fun b _ => ?_
  rw [show Fin.ofNat 8 b.val = b from Fin.ext (Nat.mod_eq_of_lt b.isLt), term_apply R]

/-- The block of convolution rows. -/
theorem pairBlock_apply (R : Reads x3 x4 w1 w2 X N f pt p ν W1 b1 W2 b2 φ) (i : Fin 16) (h : Fin 8) :
    pairBlock x3 x4 w1 w2 (table X N f) (ix2 i h) = Spec.conv p ν W1 b1 W2 b2 φ h (pt i) := by
  rw [← laneSum_accum R]
  pointwise [pairBlock]
  fin_cases h <;> rfl

end Cert.KernelIdeal.Hand

end
-- ==== Proof.KernelIdeal.Operands.lean ====
module

public import proofs.«01_k».proof.Proof.KernelIdeal.Region
public import proofs.«01_k».proof.Proof.KernelIdeal.PairValue
public import Idealize.ShloMosaic.Lib.Pipeline.ValueKit

/-! What the kernel's windows hold, in terms of the nineteen argument arrays: the host's reshapes, identity matrices and
Kronecker products, and the block of each window. -/

@[expose] public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ)

/-- Every window but the two blocks of sixteen points is its whole array. -/
theorem index_whole : ∀ (t : Fin cfg0.N) (w : Fin cfg0.W), w ≠ 3 → w ≠ 4 → ∀ a, (cfg0.win w).index t a = 0 := by
  decide +kernel

/-- The block of coordinates at point `t` is block `t - 1`. -/
theorem index_3 : ∀ t : Fin cfg0.N, 1 ≤ t.val → t.val ≤ 128 → win0_3.index t 0 = t.val - 1 ∧ win0_3.index t 1 = 0 := by
  decide +kernel

/-- The block of frames at point `t` is block `t - 1`. -/
theorem index_4 : ∀ t : Fin cfg0.N, 1 ≤ t.val → t.val ≤ 128 → win0_4.index t 0 = t.val - 1 ∧ win0_4.index t 1 = 0 := by
  decide +kernel

/-- A rank-one array as a function of its coordinate. -/
abbrev fnv {a : ℕ} (x : FVec Ideal (⟨1, ![a]⟩ : Shape) .f32) (i : Fin a) : EReal := x (ix1 i)

/-- An entry of an identity matrix, as the host builds it: two counters compared. -/
theorem eye_entry (a b : ℕ) (ha : a < 2 ^ 32) (hb : b < 2 ^ 32) :
    (FloatOps.uitofp (F := Ideal) .f32 (IntOp.cmpi .eq (IntOp.addi (BitVec.ofNat 32 a) 0#32) (BitVec.ofNat 32 b)) : EReal)
      = if a = b then 1 else 0 := by
  have h : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · exact congrArg _
  show (((IntOp.cmpi .eq (IntOp.addi (BitVec.ofNat 32 a) 0#32) (BitVec.ofNat 32 b)).toNat : ℝ) : EReal) = _
  by_cases e : a = b
  · simp [IntOp.cmpi, IntOp.addi, e]
  · simp [IntOp.cmpi, IntOp.addi, e, beq_eq_false_iff_ne.mpr (fun q => e (h.mp q))]

/-- The features, a row per point. -/
theorem V_v0 (c : Dev nD) (n : Fin 2048) (k : Fin 16) :
    (V m c main_v0 : FVec Ideal S2048x16 .f32) (ix2 n k) = (m ((c : Thread nD τ).loc main_arg2) : FVec Ideal S1x2048x16 .f32) (ix3 0 n k) := by
  simp only [fn2, V, V0, hostOps0, hostOps0_1, hostOps0_2, hostOps0_3, hostOps0_4, List.flatten_cons, List.flatten_nil,
    List.append_nil, List.cons_append, List.nil_append]
  entry_read
  pointwise

/-- The coordinates, a row per point. -/
theorem V_v1 (c : Dev nD) (n : Fin 2048) (k : Fin 3) :
    (V m c main_v1 : FVec Ideal S2048x3 .f32) (ix2 n k) = (m ((c : Thread nD τ).loc main_arg0) : FVec Ideal S1x2048x3 .f32) (ix3 0 n k) := by
  simp only [fn2, V, V0, hostOps0, hostOps0_1, hostOps0_2, hostOps0_3, hostOps0_4, List.flatten_cons, List.flatten_nil,
    List.append_nil, List.cons_append, List.nil_append]
  entry_read
  pointwise

/-- The frames, a row of nine per point. -/
theorem V_v3 (c : Dev nD) (n : Fin 2048) (k : Fin 9) :
    (V m c main_v3 : FVec Ideal S2048x9 .f32) (ix2 n k)
      = (m ((c : Thread nD τ).loc main_arg1) : FVec Ideal S1x2048x3x3 .f32) (ix4 0 n ⟨k.val / 3, by omega⟩ ⟨k.val % 3, by omega⟩) := by
  simp only [fn2, V, V0, hostOps0, hostOps0_1, hostOps0_2, hostOps0_3, hostOps0_4, List.flatten_cons, List.flatten_nil,
    List.append_nil, List.cons_append, List.nil_append]
  entry_read
  pointwise

/-- The identity matrix, three by three. -/
theorem V_v9 (c : Dev nD) (i : Fin 3) (j : Fin 3) :
    fn2 (a := 3) (b := 3) (φ := .f32) (V m c main_v9) i j = if i.val = j.val then 1 else 0 := by
  simp only [fn2, V, V0, hostOps0, hostOps0_1, hostOps0_2, hostOps0_3, hostOps0_4, List.flatten_cons, List.flatten_nil,
    List.append_nil, List.cons_append, List.nil_append]
  entry_read
  pointwise
  exact eye_entry _ _ (by omega) (by omega)

/-- The identity matrix, three by nine. -/
theorem V_v15 (c : Dev nD) (i : Fin 3) (j : Fin 9) :
    fn2 (a := 3) (b := 9) (φ := .f32) (V m c main_v15) i j = if i.val = j.val then 1 else 0 := by
  simp only [fn2, V, V0, hostOps0, hostOps0_1, hostOps0_2, hostOps0_3, hostOps0_4, List.flatten_cons, List.flatten_nil,
    List.append_nil, List.cons_append, List.nil_append]
  entry_read
  pointwise
  exact eye_entry _ _ (by omega) (by omega)

/-- The identity matrix, eight by eight. -/
theorem V_v21 (c : Dev nD) (i : Fin 8) (j : Fin 8) :
    fn2 (a := 8) (b := 8) (φ := .f32) (V m c main_v21) i j = if i.val = j.val then 1 else 0 := by
  simp only [fn2, V, V0, hostOps0, hostOps0_1, hostOps0_2, hostOps0_3, hostOps0_4, List.flatten_cons, List.flatten_nil,
    List.append_nil, List.cons_append, List.nil_append]
  entry_read
  pointwise
  exact eye_entry _ _ (by omega) (by omega)

/-- The identity matrix, sixteen by sixteen. -/
theorem V_v27 (c : Dev nD) (i : Fin 16) (j : Fin 16) :
    fn2 (a := 16) (b := 16) (φ := .f32) (V m c main_v27) i j = if i.val = j.val then 1 else 0 := by
  simp only [fn2, V, V0, hostOps0, hostOps0_1, hostOps0_2, hostOps0_3, hostOps0_4, List.flatten_cons, List.flatten_nil,
    List.append_nil, List.cons_append, List.nil_append]
  entry_read
  pointwise
  exact eye_entry _ _ (by omega) (by omega)

/-- Argument 4 as a column. -/
theorem V_v42 (c : Dev nD) (i : Fin 8) :
    (V m c main_v42 : FVec Ideal S8x1 .f32) (ix2 i 0) = (m ((c : Thread nD τ).loc main_arg4) : FVec Ideal S8 .f32) (ix1 i) := by
  simp only [fn2, V, V0, hostOps0, hostOps0_1, hostOps0_2, hostOps0_3, hostOps0_4, List.flatten_cons, List.flatten_nil,
    List.append_nil, List.cons_append, List.nil_append]
  entry_read
  pointwise

/-- Argument 6 as a column. -/
theorem V_v43 (c : Dev nD) (i : Fin 8) :
    (V m c main_v43 : FVec Ideal S8x1 .f32) (ix2 i 0) = (m ((c : Thread nD τ).loc main_arg6) : FVec Ideal S8 .f32) (ix1 i) := by
  simp only [fn2, V, V0, hostOps0, hostOps0_1, hostOps0_2, hostOps0_3, hostOps0_4, List.flatten_cons, List.flatten_nil,
    List.append_nil, List.cons_append, List.nil_append]
  entry_read
  pointwise

/-- Argument 7 as a column. -/
theorem V_v44 (c : Dev nD) (i : Fin 8) :
    (V m c main_v44 : FVec Ideal S8x1 .f32) (ix2 i 0) = (m ((c : Thread nD τ).loc main_arg7) : FVec Ideal S8 .f32) (ix1 i) := by
  simp only [fn2, V, V0, hostOps0, hostOps0_1, hostOps0_2, hostOps0_3, hostOps0_4, List.flatten_cons, List.flatten_nil,
    List.append_nil, List.cons_append, List.nil_append]
  entry_read
  pointwise

/-- Argument 8 as a column. -/
theorem V_v45 (c : Dev nD) (i : Fin 8) :
    (V m c main_v45 : FVec Ideal S8x1 .f32) (ix2 i 0) = (m ((c : Thread nD τ).loc main_arg8) : FVec Ideal S8 .f32) (ix1 i) := by
  simp only [fn2, V, V0, hostOps0, hostOps0_1, hostOps0_2, hostOps0_3, hostOps0_4, List.flatten_cons, List.flatten_nil,
    List.append_nil, List.cons_append, List.nil_append]
  entry_read
  pointwise

/-- Argument 14 as a column. -/
theorem V_v46 (c : Dev nD) (i : Fin 16) :
    (V m c main_v46 : FVec Ideal S16x1 .f32) (ix2 i 0) = (m ((c : Thread nD τ).loc main_arg14) : FVec Ideal S16 .f32) (ix1 i) := by
  simp only [fn2, V, V0, hostOps0, hostOps0_1, hostOps0_2, hostOps0_3, hostOps0_4, List.flatten_cons, List.flatten_nil,
    List.append_nil, List.cons_append, List.nil_append]
  entry_read
  pointwise

/-- Argument 16 as a column. -/
theorem V_v47 (c : Dev nD) (i : Fin 16) :
    (V m c main_v47 : FVec Ideal S16x1 .f32) (ix2 i 0) = (m ((c : Thread nD τ).loc main_arg16) : FVec Ideal S16 .f32) (ix1 i) := by
  simp only [fn2, V, V0, hostOps0, hostOps0_1, hostOps0_2, hostOps0_3, hostOps0_4, List.flatten_cons, List.flatten_nil,
    List.append_nil, List.cons_append, List.nil_append]
  entry_read
  pointwise

/-- Argument 17 as a column. -/
theorem V_v48 (c : Dev nD) (i : Fin 16) :
    (V m c main_v48 : FVec Ideal S16x1 .f32) (ix2 i 0) = (m ((c : Thread nD τ).loc main_arg17) : FVec Ideal S16 .f32) (ix1 i) := by
  simp only [fn2, V, V0, hostOps0, hostOps0_1, hostOps0_2, hostOps0_3, hostOps0_4, List.flatten_cons, List.flatten_nil,
    List.append_nil, List.cons_append, List.nil_append]
  entry_read
  pointwise

/-- Argument 18 as a column. -/
theorem V_v49 (c : Dev nD) (i : Fin 16) :
    (V m c main_v49 : FVec Ideal S16x1 .f32) (ix2 i 0) = (m ((c : Thread nD τ).loc main_arg18) : FVec Ideal S16 .f32) (ix1 i) := by
  simp only [fn2, V, V0, hostOps0, hostOps0_1, hostOps0_2, hostOps0_3, hostOps0_4, List.flatten_cons, List.flatten_nil,
    List.append_nil, List.cons_append, List.nil_append]
  entry_read
  pointwise

/-- The first filter matrix: the layer with its bias as a last column, in Kronecker product with the identity. -/
theorem V_v37 (c : Dev nD) (n : Fin 128) (k : Fin 64) :
    fn2 (a := 128) (b := 64) (φ := .bf16) (V m c main_v37) n k
      = (if h : k.val / 16 < 3 then fn2 (a := 8) (b := 3) (φ := .f32) (m ((c : Thread nD τ).loc main_arg9)) ⟨n.val / 16, by omega⟩ ⟨k.val / 16, h⟩
          else fnv (a := 8) (m ((c : Thread nD τ).loc main_arg10)) ⟨n.val / 16, by omega⟩)
        * if n.val % 16 = k.val % 16 then 1 else 0 := by
  simp only [fn2, V, V0, hostOps0, hostOps0_1, hostOps0_2, hostOps0_3, hostOps0_4, List.flatten_cons, List.flatten_nil,
    List.append_nil, List.cons_append, List.nil_append]
  entry_read
  simp only [StableHlo.TRef.toBuf, StableHlo.TRef.ofBuf, cast_eq]
  pointwise
  exact congrArg (fun z : EReal => _ * z) (eye_entry (n.val % 16) (k.val % 16) (by omega) (by omega))

/-- The second filter matrix, likewise. -/
theorem V_v41 (c : Dev nD) (n : Fin 128) (k : Fin 144) :
    fn2 (a := 128) (b := 144) (φ := .bf16) (V m c main_v41) n k
      = (if h : k.val / 16 < 8 then fn2 (a := 8) (b := 8) (φ := .f32) (m ((c : Thread nD τ).loc main_arg11)) ⟨n.val / 16, by omega⟩ ⟨k.val / 16, h⟩
          else fnv (a := 8) (m ((c : Thread nD τ).loc main_arg12)) ⟨n.val / 16, by omega⟩)
        * if n.val % 16 = k.val % 16 then 1 else 0 := by
  simp only [fn2, V, V0, hostOps0, hostOps0_1, hostOps0_2, hostOps0_3, hostOps0_4, List.flatten_cons, List.flatten_nil,
    List.append_nil, List.cons_append, List.nil_append]
  entry_read
  simp only [StableHlo.TRef.toBuf, StableHlo.TRef.ofBuf, cast_eq]
  pointwise
  exact congrArg (fun z : EReal => _ * z) (eye_entry (n.val % 16) (k.val % 16) (by omega) (by omega))

/-! ## The windows' blocks -/

/-- Window 3 at point `t` is rows `16 (t - 1)` on of the coordinates. -/
theorem blk_3 (c : Dev nD) (t : Fin cfg0.N) (h1 : 1 ≤ t.val) (h2 : t.val ≤ 128) (i : Fin 16) (k : Fin 3) :
    (iblk m c 3 t : FVec Ideal S16x3 .f32) (ix2 i k)
      = (V m c main_v1 : FVec Ideal S2048x3 .f32) (ix2 ⟨16 * (t.val - 1) + i.val, by omega⟩ k) := by
  blk_ext [iblk, index_3 t h1 h2]

/-- Window 4 at point `t` is rows `16 (t - 1)` on of the frames. -/
theorem blk_4 (c : Dev nD) (t : Fin cfg0.N) (h1 : 1 ≤ t.val) (h2 : t.val ≤ 128) (i : Fin 16) (k : Fin 9) :
    (iblk m c 4 t : FVec Ideal S16x9 .f32) (ix2 i k)
      = (V m c main_v3 : FVec Ideal S2048x9 .f32) (ix2 ⟨16 * (t.val - 1) + i.val, by omega⟩ k) := by
  blk_ext [iblk, index_4 t h1 h2]

/-- Window 0 is its whole array. -/
theorem blk_0 (c : Dev nD) (t : Fin cfg0.N) : (iblk m c 0 t : FVec Ideal S2048x16 .f32) = V m c main_v0 := by
  funext y
  blk_ext [iblk, show ∀ a, win0_0.index t a = 0 from index_whole t 0 (by decide) (by decide)]

/-- Window 1 is its whole array. -/
theorem blk_1 (c : Dev nD) (t : Fin cfg0.N) : (iblk m c 1 t : FVec Ideal S2048x3 .f32) = V m c main_v1 := by
  funext y
  blk_ext [iblk, show ∀ a, win0_1.index t a = 0 from index_whole t 1 (by decide) (by decide)]

/-- Window 2 is its whole array. -/
theorem blk_2 (c : Dev nD) (t : Fin cfg0.N) : (iblk m c 2 t : FVec Ideal S2048x9 .f32) = V m c main_v3 := by
  funext y
  blk_ext [iblk, show ∀ a, win0_2.index t a = 0 from index_whole t 2 (by decide) (by decide)]

/-- Window 5 is its whole array. -/
theorem blk_5 (c : Dev nD) (t : Fin cfg0.N) : (iblk m c 5 t : FVec Ideal S3x3 .f32) = V m c main_v9 := by
  funext y
  blk_ext [iblk, show ∀ a, win0_5.index t a = 0 from index_whole t 5 (by decide) (by decide)]

/-- Window 6 is its whole array. -/
theorem blk_6 (c : Dev nD) (t : Fin cfg0.N) : (iblk m c 6 t : FVec Ideal S3x9 .f32) = V m c main_v15 := by
  funext y
  blk_ext [iblk, show ∀ a, win0_6.index t a = 0 from index_whole t 6 (by decide) (by decide)]

/-- Window 7 is its whole array. -/
theorem blk_7 (c : Dev nD) (t : Fin cfg0.N) : (iblk m c 7 t : FVec Ideal S8x8 .f32) = V m c main_v21 := by
  funext y
  blk_ext [iblk, show ∀ a, win0_7.index t a = 0 from index_whole t 7 (by decide) (by decide)]

/-- Window 8 is its whole array. -/
theorem blk_8 (c : Dev nD) (t : Fin cfg0.N) : (iblk m c 8 t : FVec Ideal S16x16 .f32) = V m c main_v27 := by
  funext y
  blk_ext [iblk, show ∀ a, win0_8.index t a = 0 from index_whole t 8 (by decide) (by decide)]

/-- Window 9 is its whole array. -/
theorem blk_9 (c : Dev nD) (t : Fin cfg0.N) : (iblk m c 9 t : FVec Ideal S8x16 .f32) = V m c main_arg3 := by
  funext y
  blk_ext [iblk, show ∀ a, win0_9.index t a = 0 from index_whole t 9 (by decide) (by decide)]

/-- Window 10 is its whole array. -/
theorem blk_10 (c : Dev nD) (t : Fin cfg0.N) : (iblk m c 10 t : FVec Ideal S8x1 .f32) = V m c main_v42 := by
  funext y
  blk_ext [iblk, show ∀ a, win0_10.index t a = 0 from index_whole t 10 (by decide) (by decide)]

/-- Window 11 is its whole array. -/
theorem blk_11 (c : Dev nD) (t : Fin cfg0.N) : (iblk m c 11 t : FVec Ideal S8x8 .f32) = V m c main_arg5 := by
  funext y
  blk_ext [iblk, show ∀ a, win0_11.index t a = 0 from index_whole t 11 (by decide) (by decide)]

/-- Window 12 is its whole array. -/
theorem blk_12 (c : Dev nD) (t : Fin cfg0.N) : (iblk m c 12 t : FVec Ideal S8x1 .f32) = V m c main_v43 := by
  funext y
  blk_ext [iblk, show ∀ a, win0_12.index t a = 0 from index_whole t 12 (by decide) (by decide)]

/-- Window 13 is its whole array. -/
theorem blk_13 (c : Dev nD) (t : Fin cfg0.N) : (iblk m c 13 t : FVec Ideal S8x1 .f32) = V m c main_v44 := by
  funext y
  blk_ext [iblk, show ∀ a, win0_13.index t a = 0 from index_whole t 13 (by decide) (by decide)]

/-- Window 14 is its whole array. -/
theorem blk_14 (c : Dev nD) (t : Fin cfg0.N) : (iblk m c 14 t : FVec Ideal S8x1 .f32) = V m c main_v45 := by
  funext y
  blk_ext [iblk, show ∀ a, win0_14.index t a = 0 from index_whole t 14 (by decide) (by decide)]

/-- Window 15 is its whole array. -/
theorem blk_15 (c : Dev nD) (t : Fin cfg0.N) : (iblk m c 15 t : FVec Ideal S128x64 .bf16) = V m c main_v37 := by
  funext y
  blk_ext [iblk, show ∀ a, win0_15.index t a = 0 from index_whole t 15 (by decide) (by decide)]

/-- Window 16 is its whole array. -/
theorem blk_16 (c : Dev nD) (t : Fin cfg0.N) : (iblk m c 16 t : FVec Ideal S128x144 .bf16) = V m c main_v41 := by
  funext y
  blk_ext [iblk, show ∀ a, win0_16.index t a = 0 from index_whole t 16 (by decide) (by decide)]

/-- Window 17 is its whole array. -/
theorem blk_17 (c : Dev nD) (t : Fin cfg0.N) : (iblk m c 17 t : FVec Ideal S16x8 .f32) = V m c main_arg13 := by
  funext y
  blk_ext [iblk, show ∀ a, win0_17.index t a = 0 from index_whole t 17 (by decide) (by decide)]

/-- Window 18 is its whole array. -/
theorem blk_18 (c : Dev nD) (t : Fin cfg0.N) : (iblk m c 18 t : FVec Ideal S16x1 .f32) = V m c main_v46 := by
  funext y
  blk_ext [iblk, show ∀ a, win0_18.index t a = 0 from index_whole t 18 (by decide) (by decide)]

/-- Window 19 is its whole array. -/
theorem blk_19 (c : Dev nD) (t : Fin cfg0.N) : (iblk m c 19 t : FVec Ideal S16x16 .f32) = V m c main_arg15 := by
  funext y
  blk_ext [iblk, show ∀ a, win0_19.index t a = 0 from index_whole t 19 (by decide) (by decide)]

/-- Window 20 is its whole array. -/
theorem blk_20 (c : Dev nD) (t : Fin cfg0.N) : (iblk m c 20 t : FVec Ideal S16x1 .f32) = V m c main_v47 := by
  funext y
  blk_ext [iblk, show ∀ a, win0_20.index t a = 0 from index_whole t 20 (by decide) (by decide)]

/-- Window 21 is its whole array. -/
theorem blk_21 (c : Dev nD) (t : Fin cfg0.N) : (iblk m c 21 t : FVec Ideal S16x1 .f32) = V m c main_v48 := by
  funext y
  blk_ext [iblk, show ∀ a, win0_21.index t a = 0 from index_whole t 21 (by decide) (by decide)]

/-- Window 22 is its whole array. -/
theorem blk_22 (c : Dev nD) (t : Fin cfg0.N) : (iblk m c 22 t : FVec Ideal S16x1 .f32) = V m c main_v49 := by
  funext y
  blk_ext [iblk, show ∀ a, win0_22.index t a = 0 from index_whole t 22 (by decide) (by decide)]

end Cert.KernelIdeal.Hand

end
-- ==== Proof.KernelIdeal.OutValue.lean ====
module

public import proofs.«01_k».proof.Proof.KernelIdeal.Operands

/-! The output block as the last point leaves it, in terms of the nineteen argument arrays. -/

@[expose] public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ)

/-- A sum against a row of the identity, scaled. -/
theorem sum_eye_scaled {N : ℕ} (a : ℕ) (ha : a < N) (s : EReal) (x : Fin N → EReal) :
    ∑ k : Fin N, (if a = k.val then 1 else 0) * s * x k = s * x ⟨a, ha⟩ := by
  rw [Finset.sum_eq_single ⟨a, ha⟩]
  · rw [if_pos rfl, one_mul]
  · intro k _ hk
    rw [if_neg (fun h => hk (Fin.ext h.symm)), zero_mul, zero_mul]
  · intro h
    exact absurd (Finset.mem_univ _) h

/-- A sum against a row of the identity. -/
theorem sum_eye {N : ℕ} (a : ℕ) (ha : a < N) (x : Fin N → EReal) :
    ∑ k : Fin N, (if a = k.val then 1 else 0) * x k = x ⟨a, ha⟩ := by
  simpa using sum_eye_scaled a ha 1 x

/-- A sum against a column of the identity. -/
theorem sum_eye_right {N : ℕ} (a : ℕ) (ha : a < N) (x : Fin N → EReal) :
    ∑ k : Fin N, x k * (if k.val = a then 1 else 0) = x ⟨a, ha⟩ := by
  rw [← sum_eye a ha x]
  refine Finset.sum_congr rfl fun k _ => ?_
  rw [mul_comm]
  simp only [eq_comm]

/-- Argument 0. -/
abbrev A0 (c : Dev nD) : FVec Ideal S1x2048x3 .f32 := m ((c : Thread nD τ).loc main_arg0)
/-- Argument 1. -/
abbrev A1 (c : Dev nD) : FVec Ideal S1x2048x3x3 .f32 := m ((c : Thread nD τ).loc main_arg1)
/-- Argument 2. -/
abbrev A2 (c : Dev nD) : FVec Ideal S1x2048x16 .f32 := m ((c : Thread nD τ).loc main_arg2)
/-- Argument 3. -/
abbrev A3 (c : Dev nD) : FVec Ideal S8x16 .f32 := m ((c : Thread nD τ).loc main_arg3)
/-- Argument 4. -/
abbrev A4 (c : Dev nD) : FVec Ideal S8 .f32 := m ((c : Thread nD τ).loc main_arg4)
/-- Argument 5. -/
abbrev A5 (c : Dev nD) : FVec Ideal S8x8 .f32 := m ((c : Thread nD τ).loc main_arg5)
/-- Argument 6. -/
abbrev A6 (c : Dev nD) : FVec Ideal S8 .f32 := m ((c : Thread nD τ).loc main_arg6)
/-- Argument 7. -/
abbrev A7 (c : Dev nD) : FVec Ideal S8 .f32 := m ((c : Thread nD τ).loc main_arg7)
/-- Argument 8. -/
abbrev A8 (c : Dev nD) : FVec Ideal S8 .f32 := m ((c : Thread nD τ).loc main_arg8)
/-- Argument 9. -/
abbrev A9 (c : Dev nD) : FVec Ideal S8x3 .f32 := m ((c : Thread nD τ).loc main_arg9)
/-- Argument 10. -/
abbrev A10 (c : Dev nD) : FVec Ideal S8 .f32 := m ((c : Thread nD τ).loc main_arg10)
/-- Argument 11. -/
abbrev A11 (c : Dev nD) : FVec Ideal S8x8 .f32 := m ((c : Thread nD τ).loc main_arg11)
/-- Argument 12. -/
abbrev A12 (c : Dev nD) : FVec Ideal S8 .f32 := m ((c : Thread nD τ).loc main_arg12)
/-- Argument 13. -/
abbrev A13 (c : Dev nD) : FVec Ideal S16x8 .f32 := m ((c : Thread nD τ).loc main_arg13)
/-- Argument 14. -/
abbrev A14 (c : Dev nD) : FVec Ideal S16 .f32 := m ((c : Thread nD τ).loc main_arg14)
/-- Argument 15. -/
abbrev A15 (c : Dev nD) : FVec Ideal S16x16 .f32 := m ((c : Thread nD τ).loc main_arg15)
/-- Argument 16. -/
abbrev A16 (c : Dev nD) : FVec Ideal S16 .f32 := m ((c : Thread nD τ).loc main_arg16)
/-- Argument 17. -/
abbrev A17 (c : Dev nD) : FVec Ideal S16 .f32 := m ((c : Thread nD τ).loc main_arg17)
/-- Argument 18. -/
abbrev A18 (c : Dev nD) : FVec Ideal S16 .f32 := m ((c : Thread nD τ).loc main_arg18)

/-- The scaled coordinates. -/
def specP (c : Dev nD) (k : Fin 3) (n : Fin 2048) : EReal := A0 m c (ix3 0 n k) * Spec.rsqrt2

/-- The frames. -/
def specN (c : Dev nD) (k : Fin 9) (n : Fin 2048) : EReal :=
  A1 m c (ix4 0 n ⟨k.val / 3, by omega⟩ ⟨k.val % 3, by omega⟩)

/-- The features after the input network. -/
def specF (c : Dev nD) : Fin 8 → Fin 2048 → EReal :=
  Spec.gnorm8
    (Spec.layer (fun o k => A5 m c (ix2 o k)) (fun o => A6 m c (ix1 o))
      (Spec.layer (fun o k => A3 m c (ix2 o k)) (fun o => A4 m c (ix1 o)) fun k n => A2 m c (ix3 0 n k)))
    (fun o => A7 m c (ix1 o)) (fun o => A8 m c (ix1 o))

/-- The convolution. -/
def specC (c : Dev nD) : Fin 8 → Fin 2048 → EReal :=
  Spec.conv (specP m c) (specN m c) (fun o k => A9 m c (ix2 o k)) (fun o => A10 m c (ix1 o))
    (fun o k => A11 m c (ix2 o k)) (fun o => A12 m c (ix1 o)) (specF m c)

/-- The scaled coordinates as point 0 lays them out. -/
theorem ptsT_read (c : Dev nD) (k : Fin 3) (n : Fin 2048) :
    ptsT (F := Ideal) (iblk m c 1 pt0) (iblk m c 5 pt0) (ix2 k n) = specP m c k n := by
  rw [blk_1, blk_5]
  pointwise [ptsT]
  rw [named_rsqrt2]
  have e : ∀ j : Fin 3, (V m c main_v9 : FVec Ideal S3x3 .f32) (ix2 k j) = (if k.val = j.val then (1 : EReal) else 0) := V_v9 m c k
  have f : ∀ j : Fin 3, (V m c main_v1 : FVec Ideal S2048x3 .f32) (ix2 n j) = A0 m c (ix3 0 n j) := V_v1 m c n
  simp only [e, f]
  rw [sum_eye_scaled k.val k.isLt, mul_comm]
  rfl

/-- The normals as point 0 lays them out. -/
theorem nrmT_read (c : Dev nD) (k : Fin 3) (n : Fin 2048) :
    nrmT (F := Ideal) (iblk m c 2 pt0) (iblk m c 6 pt0) (ix2 k n) = specN m c ⟨k.val, by omega⟩ n := by
  rw [blk_2, blk_6]
  pointwise [nrmT]
  have e : ∀ j : Fin 9, (V m c main_v15 : FVec Ideal S3x9 .f32) (ix2 k j) = (if k.val = j.val then (1 : EReal) else 0) := V_v15 m c k
  have f : ∀ j : Fin 9, (V m c main_v3 : FVec Ideal S2048x9 .f32) (ix2 n j) = specN m c j n := V_v3 m c n
  simp only [e, f]
  rw [sum_eye k.val (by omega)]

/-- The features as point 0 computes them. -/
theorem inNet_read (c : Dev nD) (o : Fin 8) (n : Fin 2048) :
    inNet (F := Ideal) (iblk m c 0 pt0) (iblk m c 9 pt0) (iblk m c 10 pt0) (iblk m c 11 pt0) (iblk m c 12 pt0) (iblk m c 13 pt0)
      (iblk m c 14 pt0) (ix2 o n) = specF m c o n := by
  rw [inNet_apply, blk_0, blk_9, blk_10, blk_11, blk_12, blk_13, blk_14, V_main_arg3, V_main_arg5]
  rw [show fn1 (φ := .f32) (V m c main_v42) = fun o => A4 m c (ix1 o) from funext (V_v42 m c),
    show fn1 (φ := .f32) (V m c main_v43) = fun o => A6 m c (ix1 o) from funext (V_v43 m c),
    show fn1 (φ := .f32) (V m c main_v44) = fun o => A7 m c (ix1 o) from funext (V_v44 m c),
    show fn1 (φ := .f32) (V m c main_v45) = fun o => A8 m c (ix1 o) from funext (V_v45 m c),
    show (fun (k : Fin 16) (n : Fin 2048) => (V m c main_v0 : FVec Ideal S2048x16 .f32) (ix2 n k))
      = fun k n => A2 m c (ix3 0 n k) from funext fun k => funext fun n => V_v0 m c n k]
  rfl

/-- The point of row `i` of the block that grid point `t` works on. -/
def rowPt (t : Fin cfg0.N) (h1 : 1 ≤ t.val) (h2 : t.val ≤ 128) (i : Fin 16) : Fin 2048 :=
  ⟨16 * (t.val - 1) + i.val, by omega⟩

/-- What the operands hold at a point between 1 and 128. -/
theorem reads (c : Dev nD) (t : Fin cfg0.N) (h1 : 1 ≤ t.val) (h2 : t.val ≤ 128) :
    Reads (iblk m c 3 t) (iblk m c 4 t) (iblk m c 15 t) (iblk m c 16 t) (ptsT (iblk m c 1 pt0) (iblk m c 5 pt0))
      (nrmT (iblk m c 2 pt0) (iblk m c 6 pt0))
      (inNet (iblk m c 0 pt0) (iblk m c 9 pt0) (iblk m c 10 pt0) (iblk m c 11 pt0) (iblk m c 12 pt0) (iblk m c 13 pt0)
        (iblk m c 14 pt0))
      (rowPt t h1 h2) (specP m c) (specN m c) (fun o k => A9 m c (ix2 o k)) (fun o => A10 m c (ix1 o))
      (fun o k => A11 m c (ix2 o k)) (fun o => A12 m c (ix1 o)) (specF m c) where
  rx3 i k := congrArg (fun z : EReal => z * Spec.rsqrt2) ((blk_3 m c t h1 h2 i k).trans (V_v1 m c _ k))
  rx4 i k := (blk_4 m c t h1 h2 i k).trans (V_v3 m c _ k)
  rX := ptsT_read m c
  rN := nrmT_read m c
  rf := inNet_read m c
  rw1 o i k j := by
    rw [blk_15]
    refine (V_v37 m c _ _).trans ?_
    simp only [show (16 * o.val + i.val) / 16 = o.val by omega, show (16 * k.val + j.val) / 16 = k.val by omega,
      show (16 * o.val + i.val) % 16 = i.val by omega, show (16 * k.val + j.val) % 16 = j.val by omega, Fin.ext_iff]
    congr 1
    fin_cases k <;> rfl
  rw2 o i k j := by
    rw [blk_16]
    refine (V_v41 m c _ _).trans ?_
    simp only [show (16 * o.val + i.val) / 16 = o.val by omega, show (16 * k.val + j.val) / 16 = k.val by omega,
      show (16 * o.val + i.val) % 16 = i.val by omega, show (16 * k.val + j.val) % 16 = j.val by omega, Fin.ext_iff,
      k.isLt, dite_true]
  rb2 o i j := by
    rw [blk_16]
    refine (V_v41 m c _ _).trans ?_
    simp only [show (16 * o.val + i.val) / 16 = o.val by omega, show (128 + j.val) / 16 = 8 by omega,
      show (16 * o.val + i.val) % 16 = i.val by omega, show (128 + j.val) % 16 = j.val by omega, Fin.ext_iff]
    rfl

/-- The convolution rows are the convolution. -/
theorem PAIR_read (c : Dev nD) (n : Fin 2048) (h : Fin 8) : PAIR m c (ix2 n h) = specC m c h n := by
  have h1 : 1 ≤ (ptOf (ix2 n h)).val := by simp [ptOf]
  have h2 : (ptOf (ix2 n h)).val ≤ 128 := by
    have := n.isLt
    show n.val / 16 + 1 ≤ 128
    omega
  refine (pairBlock_apply (reads m c (ptOf (ix2 n h)) h1 h2) ⟨n.val % 16, Nat.mod_lt _ (by decide)⟩ h).trans ?_
  refine congrArg (specC m c h) (Fin.ext ?_)
  show 16 * (n.val / 16 + 1 - 1) + n.val % 16 = n.val
  omega

/-- The convolution rows turned. -/
theorem convT_read (c : Dev nD) (h : Fin 8) (n : Fin 2048) :
    convT (PAIR m c) (iblk m c 7 ptZ) (ix2 h n) = specC m c h n := by
  rw [blk_7]
  pointwise [convT]
  have e : ∀ j : Fin 8, (V m c main_v21 : FVec Ideal S8x8 .f32) (ix2 h j) = (if h.val = j.val then (1 : EReal) else 0) := V_v21 m c h
  simp only [e, PAIR_read]
  rw [sum_eye h.val h.isLt]

/-- The output block is the specification's result. -/
theorem OUT_read (c : Dev nD) (n : Fin 2048) (o : Fin 16) :
    OUT m c (ix2 n o) = Spec.result
      (A0 m c) (A1 m c) (A2 m c) (A3 m c) (A4 m c) (A5 m c) (A6 m c) (A7 m c) (A8 m c) (A9 m c)
      (A10 m c) (A11 m c) (A12 m c) (A13 m c) (A14 m c) (A15 m c) (A16 m c) (A17 m c) (A18 m c) (ix3 0 n o) := by
  rw [OUT, blk_8]
  pointwise [outT]
  have e : ∀ j : Fin 16, (V m c main_v27 : FVec Ideal S16x16 .f32) (ix2 j o) = (if j.val = o.val then (1 : EReal) else 0) :=
    fun j => V_v27 m c j o
  simp only [e]
  rw [sum_eye_right o.val o.isLt, outNet_apply, blk_17, blk_18, blk_19, blk_20, blk_21, blk_22, V_main_arg13, V_main_arg15]
  rw [show fn1 (φ := .f32) (V m c main_v46) = fun o => A14 m c (ix1 o) from funext (V_v46 m c),
    show fn1 (φ := .f32) (V m c main_v47) = fun o => A16 m c (ix1 o) from funext (V_v47 m c),
    show fn1 (φ := .f32) (V m c main_v48) = fun o => A17 m c (ix1 o) from funext (V_v48 m c),
    show fn1 (φ := .f32) (V m c main_v49) = fun o => A18 m c (ix1 o) from funext (V_v49 m c),
    show fn2 (convT (PAIR m c) (iblk m c 7 ptZ)) = specC m c from funext fun h => funext fun n => convT_read m c h n]
  rfl

end Cert.KernelIdeal.Hand

end
-- ==== Proof.KernelIdeal.Result.lean ====
module

public import proofs.«01_k».proof.Proof.KernelIdeal.OutValue
public import proofs.«01_k».proof.Proof.KernelIdeal.Launch

/-! What the kernel leaves in its result buffer: the specification's result of the arguments. -/

@[expose] public section

set_option maxRecDepth 16384

noncomputable section

namespace Cert.KernelIdeal.Hand

open Cert.KernelIdeal.Gen
open Idealize.ShloMosaic Idealize.ShloMosaic.TcCoe Idealize.ShloMosaic.Pipeline
open Idealize.SL.Sem

variable (m : (ℓ : Loc nD τ sig) → Buf (Elt Ideal) ℓ)

/-- The output window's array after the run is the block the last point leaves. -/
theorem arr_out (c : Dev nD) : (dats m 0 c).arrAt 23 cfg0.N = OUT m c := by
  refine (dats m 0 c).arrAt_eq_of_covers 23 _ (by decide +kernel) fun t hf y => ?_
  blk_simp
  rw [after0_23]
  refine congrArg (OUT m c) (funext fun a => Fin.ext ?_)
  have h : ∀ a, win0_23.index t a = 0 := index_whole t 23 (by decide) (by decide)
  fin_cases a <;> simp [h]

/-- The specification's result of the kernel's arguments. -/
abbrev G (c : Dev nD) : FVec Ideal S1x2048x16 .f32 := Spec.result
  (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c)

/-- The result buffer after the host's last operation. -/
theorem tail_out (c : Dev nD) :
    Pipeline.afterTail₀ cfgs (dats m) 0 (V0 m) [hostOps1] c main_v51 = G m c := by
  have h : Pipeline.withArrays spec0 c (V0 m c) (fun w => (dats m 0 c).arrAt w cfg0.N) (Proc.devRef .tc (Pipeline.arrRef spec0 23))
      = OUT m c := ((dats m 0 c).withArrays_arrAt sharedIn0 (V0 m c) (A_eq m c) 23).trans (arr_out m c)
  funext y
  unfold Pipeline.afterTail₀
  simp only [hostOps1, List.flatten_cons, List.flatten_nil, List.append_nil]
  have e : y = ix3 0 (y 1) (y 2) := by
    funext a; fin_cases a
    · exact Subsingleton.elim (α := Fin 1) _ _
    · rfl
    · rfl
  rw [e]
  refine Eq.trans ?_ (OUT_read m c (y 1) (y 2))
  rw [← h]
  entry_read
  pointwise

/-- Every run of the kernel ends with the specification's result and the arguments as they were. -/
theorem run (ρ : Dev nD → PrngReg) : θ_run defs (onTc (τ := τ) (main (F := Ideal))) ⟨m, fun _ => 0, ρ⟩ (fun r => ∀ c : Dev nD,
      r.2.mem ((c : Thread nD τ).loc main_v51) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)) :=
  (θ_run defs _ _).mono
    (fun _ h c => ⟨((h.2 c).2 main_v51 (Pipeline.mem_restRefs_of main_v51 (by decide) (by decide))).trans (tail_out m c), h.1 c⟩)
    (θ_run_and (frame_of m ρ (dats m) (A_eq m) (run_main m ρ)) (run_main m ρ))

end Cert.KernelIdeal.Hand

end
-- ==== Proof.RefNet.lean ====
module

public import proofs.«01_k».proof.Proof.Gen.ReferenceIdeal.Read
public import proofs.«01_k».proof.Proof.Spec
public import Idealize.ShloMosaic.Lib.Pointwise

/-! The reference's dense layers at an index, over the extended reals. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe

/-- The input network's first layer. -/
theorem in1 (x2 : FVec Ideal S1x2048x16 .f32) (x3 : FVec Ideal S8x16 .f32) (x4 : FVec Ideal S8 .f32) (o : Fin 8) (n : Fin
    2048) :
    val_main_v5 (F := Ideal) x2 x3 x4 (ix3 0 n o) = Spec.layer (fun o k => x3 (ix2 o k)) (fun o => x4 (ix1 o)) (fun k n => x2
      (ix3 0 n k)) o n := by
  pointwise [val_main_v5, val_main_call0_v4, val_main_call0_v3, val_main_call0_v2, val_main_call0_v1, val_main_call0_v0,
    val_main_call0_cst, val_main_cst, val_main_v4, val_main_v3, val_main_v2, val_main_v1, val_main_v0]
  simp only [mul_comm (G := EReal) _ (x3 _)]
  rfl

/-- The input network's second layer. -/
theorem in2 (x2 : FVec Ideal S1x2048x16 .f32) (x3 : FVec Ideal S8x16 .f32) (x4 : FVec Ideal S8 .f32) (x5 : FVec Ideal S8x8
    .f32) (x6 : FVec Ideal S8 .f32) (o : Fin 8) (n : Fin 2048) :
    val_main_v11 (F := Ideal) x2 x3 x4 x5 x6 (ix3 0 n o) = Spec.layer (fun o k => x5 (ix2 o k)) (fun o => x6 (ix1 o)) (fun k
      n => val_main_v5 (F := Ideal) x2 x3 x4 (ix3 0 n k)) o n := by
  pointwise [val_main_v11, val_main_call1_v4, val_main_call1_v3, val_main_call1_v2, val_main_call1_v1, val_main_call1_v0,
    val_main_call1_cst, val_main_cst_0, val_main_v10, val_main_v9, val_main_v8, val_main_v7, val_main_v6]
  simp only [mul_comm (G := EReal) _ (x5 _)]
  rfl

/-- The output network's first layer. -/
theorem out1 (x0 : FVec Ideal S1x2048x3 .f32) (x1 : FVec Ideal S1x2048x3x3 .f32) (x2 : FVec Ideal S1x2048x16 .f32) (x3 : FVec
    Ideal S8x16 .f32) (x4 : FVec Ideal S8 .f32) (x5 : FVec Ideal S8x8 .f32) (x6 x7 x8 : FVec Ideal S8 .f32) (x9 : FVec Ideal
    S8x3 .f32) (x10 : FVec Ideal S8 .f32) (x11 : FVec Ideal S8x8 .f32) (x12 : FVec Ideal S8 .f32) (x13 : FVec Ideal S16x8
    .f32) (x14 : FVec Ideal S16 .f32) (o : Fin 16) (n : Fin 2048) :
    val_main_v95 (F := Ideal) x0 x1 x2 x3 x4 x5 x6 x7 x8 x9 x10 x11 x12 x13 x14 (ix3 0 n o) = Spec.layer (fun o k => x13 (ix2
      o k)) (fun o => x14 (ix1 o)) (fun k n => val_main_v89 (F := Ideal) x0 x1 x2 x3 x4 x5 x6 x7 x8 x9 x10 x11 x12 (ix3 0 n
      k)) o n := by
  pointwise [val_main_v95, val_main_call5_v4, val_main_call5_v3, val_main_call5_v2, val_main_call5_v1, val_main_call5_v0,
    val_main_call5_cst, val_main_cst_10, val_main_v94, val_main_v93, val_main_v92, val_main_v91, val_main_v90]
  simp only [mul_comm (G := EReal) _ (x13 _)]
  rfl

/-- The output network's second layer. -/
theorem out2 (x0 : FVec Ideal S1x2048x3 .f32) (x1 : FVec Ideal S1x2048x3x3 .f32) (x2 : FVec Ideal S1x2048x16 .f32) (x3 : FVec
    Ideal S8x16 .f32) (x4 : FVec Ideal S8 .f32) (x5 : FVec Ideal S8x8 .f32) (x6 x7 x8 : FVec Ideal S8 .f32) (x9 : FVec Ideal
    S8x3 .f32) (x10 : FVec Ideal S8 .f32) (x11 : FVec Ideal S8x8 .f32) (x12 : FVec Ideal S8 .f32) (x13 : FVec Ideal S16x8
    .f32) (x14 : FVec Ideal S16 .f32) (x15 : FVec Ideal S16x16 .f32) (x16 : FVec Ideal S16 .f32) (o : Fin 16) (n : Fin 2048)
    :
    val_main_v101 (F := Ideal) x0 x1 x2 x3 x4 x5 x6 x7 x8 x9 x10 x11 x12 x13 x14 x15 x16 (ix3 0 n o) = Spec.layer (fun o k =>
      x15 (ix2 o k)) (fun o => x16 (ix1 o)) (fun k n => val_main_v95 (F := Ideal) x0 x1 x2 x3 x4 x5 x6 x7 x8 x9 x10 x11 x12
      x13 x14 (ix3 0 n k)) o n := by
  pointwise [val_main_v101, val_main_call6_v4, val_main_call6_v3, val_main_call6_v2, val_main_call6_v1, val_main_call6_v0,
    val_main_call6_cst, val_main_cst_11, val_main_v100, val_main_v99, val_main_v98, val_main_v97, val_main_v96]
  simp only [mul_comm (G := EReal) _ (x15 _)]
  rfl

end Cert.ReferenceIdeal.Hand

end
-- ==== Proof.RefNorm.lean ====
module

public import proofs.«01_k».proof.Proof.Gen.ReferenceIdeal.Read
public import proofs.«01_k».proof.Proof.Spec
public import Idealize.ShloMosaic.Lib.Pointwise

/-! The reference's two group normalisations at an index, over the extended reals. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe

/-- A number less the integer zero turned into a float. -/
theorem less_none (x : EReal) : x - FloatOps.sitofp (F := Ideal) .f32 (0#32) = x := by
  have h : FloatOps.sitofp (F := Ideal) .f32 (0#32) = (0 : EReal) := by
    simp [FloatOps.sitofp]
  rw [h, sub_zero]

/-- The number of entries in a group of the eight channels is above zero. -/
theorem positive8 : (0 : EReal) < Ideal.ofBits .f32 0x45800000#32 := by
  have h : Ideal.ofBits .f32 0x45800000#32 = ((4096 : ℝ) : EReal) := by
    simp [Ideal.ofBits, Ideal.ieee, -EReal.coe_mul]; norm_num
  rw [h]; exact_mod_cast (by norm_num : (0 : ℝ) < 4096)

/-- The number of entries in a group of the sixteen channels is above zero. -/
theorem positive16 : (0 : EReal) < Ideal.ofBits .f32 0x46000000#32 := by
  have h : Ideal.ofBits .f32 0x46000000#32 = ((8192 : ℝ) : EReal) := by
    simp [Ideal.ofBits, Ideal.ieee, -EReal.coe_mul]; norm_num
  rw [h]; exact_mod_cast (by norm_num : (0 : ℝ) < 8192)

/-- The channels as the normalisation groups them. -/
theorem grp8 (x2 : FVec Ideal S1x2048x16 .f32) (x3 : FVec Ideal S8x16 .f32) (x4 : FVec Ideal S8 .f32) (x5 : FVec Ideal S8x8
    .f32) (x6 : FVec Ideal S8 .f32) (q : Fin 4) (r : Fin 2) (n : Fin 2048) :
    val_main_v13 (F := Ideal) x2 x3 x4 x5 x6 (ix4 0 q r n) = Spec.members 2 rfl (fun o n => val_main_v11 (F := Ideal) x2 x3
      x4 x5 x6 (ix3 0 n o)) q r n := by
  pointwise [val_main_v13, val_main_v12]
  exact congrArg (fun k => val_main_v11 (F := Ideal) x2 x3 x4 x5 x6 (ix3 0 n k)) (Fin.ext (congrArg (· + r.val) (Nat.mul_comm
    q.val 2)))

/-- The mean of a group. -/
theorem mean8 (x2 : FVec Ideal S1x2048x16 .f32) (x3 : FVec Ideal S8x16 .f32) (x4 : FVec Ideal S8 .f32) (x5 : FVec Ideal S8x8
    .f32) (x6 : FVec Ideal S8 .f32) (q : Fin 4) :
    val_main_v17 (F := Ideal) x2 x3 x4 x5 x6 (ix4 0 q 0 0) = Spec.mean (Ideal.ofBits .f32 0x45800000#32) (Spec.members 2 rfl
      (fun o n => val_main_v11 (F := Ideal) x2 x3 x4 x5 x6 (ix3 0 n o)) q) := by
  pointwise [val_main_v17, val_main_v16, val_main_cst_2, val_main_v15, val_main_v14, val_main_cst_1]
  simp only [grp8]
  rfl

/-- The variance of a group. -/
theorem var8 (x2 : FVec Ideal S1x2048x16 .f32) (x3 : FVec Ideal S8x16 .f32) (x4 : FVec Ideal S8 .f32) (x5 : FVec Ideal S8x8
    .f32) (x6 : FVec Ideal S8 .f32) (q : Fin 4) :
    val_main_v18 (F := Ideal) x2 x3 x4 x5 x6 (ix4 0 q 0 0) = Spec.var (Ideal.ofBits .f32 0x45800000#32) (Spec.members 2 rfl
      (fun o n => val_main_v11 (F := Ideal) x2 x3 x4 x5 x6 (ix3 0 n o)) q) := by
  pointwise [val_main_v18, val_main_call2_call0_v1, val_main_call2_call0_v0, val_main_call2_cst_4, val_main_call2_v13,
    val_main_call2_cst_3, val_main_call2_v12, val_main_call2_v11, val_main_call2_v10, val_main_call2_v9,
    val_main_call2_cst_2, val_main_call2_v8, val_main_call2_cst_1, val_main_call2_v7, val_main_call2_v6, val_main_call2_v5,
    val_main_call2_v4, val_main_call2_v3, val_main_call2_v2, val_main_call2_cst_0, val_main_call2_v1, val_main_call2_v0,
    val_main_call2_cst, val_main_c]
  simp only [grp8, less_none, if_pos positive8]
  rfl

/-- The channels normalised. -/
theorem norm8 (x2 : FVec Ideal S1x2048x16 .f32) (x3 : FVec Ideal S8x16 .f32) (x4 : FVec Ideal S8 .f32) (x5 : FVec Ideal S8x8
    .f32) (x6 x7 x8 : FVec Ideal S8 .f32) (o : Fin 8) (n : Fin 2048) :
    val_main_v33 (F := Ideal) x2 x3 x4 x5 x6 x7 x8 (ix3 0 n o) = Spec.gnorm8 (fun o n => val_main_v11 (F := Ideal) x2 x3 x4
      x5 x6 (ix3 0 n o)) (fun o => x7 (ix1 o)) (fun o => x8 (ix1 o)) o n := by
  pointwise [val_main_v33, val_main_v32, val_main_v31, val_main_v30, val_main_v29, val_main_v28, val_main_v27, val_main_v26,
    val_main_v25, val_main_v24, val_main_v23, val_main_v22, val_main_v21, val_main_cst_3, val_main_v20, val_main_v19]
  rw [grp8, mean8, var8]
  rfl

/-- The channels as the normalisation groups them. -/
theorem grp16 (x0 : FVec Ideal S1x2048x3 .f32) (x1 : FVec Ideal S1x2048x3x3 .f32) (x2 : FVec Ideal S1x2048x16 .f32) (x3 :
    FVec Ideal S8x16 .f32) (x4 : FVec Ideal S8 .f32) (x5 : FVec Ideal S8x8 .f32) (x6 x7 x8 : FVec Ideal S8 .f32) (x9 : FVec
    Ideal S8x3 .f32) (x10 : FVec Ideal S8 .f32) (x11 : FVec Ideal S8x8 .f32) (x12 : FVec Ideal S8 .f32) (x13 : FVec Ideal
    S16x8 .f32) (x14 : FVec Ideal S16 .f32) (x15 : FVec Ideal S16x16 .f32) (x16 : FVec Ideal S16 .f32) (q : Fin 4) (r : Fin
    4) (n : Fin 2048) :
    val_main_v103 (F := Ideal) x0 x1 x2 x3 x4 x5 x6 x7 x8 x9 x10 x11 x12 x13 x14 x15 x16 (ix4 0 q r n) = Spec.members 4 rfl
      (fun o n => val_main_v101 (F := Ideal) x0 x1 x2 x3 x4 x5 x6 x7 x8 x9 x10 x11 x12 x13 x14 x15 x16 (ix3 0 n o)) q r n :=
      by
  pointwise [val_main_v103, val_main_v102]
  exact congrArg (fun k => val_main_v101 (F := Ideal) x0 x1 x2 x3 x4 x5 x6 x7 x8 x9 x10 x11 x12 x13 x14 x15 x16 (ix3 0 n k))
    (Fin.ext (congrArg (· + r.val) (Nat.mul_comm q.val 4)))

/-- The mean of a group. -/
theorem mean16 (x0 : FVec Ideal S1x2048x3 .f32) (x1 : FVec Ideal S1x2048x3x3 .f32) (x2 : FVec Ideal S1x2048x16 .f32) (x3 :
    FVec Ideal S8x16 .f32) (x4 : FVec Ideal S8 .f32) (x5 : FVec Ideal S8x8 .f32) (x6 x7 x8 : FVec Ideal S8 .f32) (x9 : FVec
    Ideal S8x3 .f32) (x10 : FVec Ideal S8 .f32) (x11 : FVec Ideal S8x8 .f32) (x12 : FVec Ideal S8 .f32) (x13 : FVec Ideal
    S16x8 .f32) (x14 : FVec Ideal S16 .f32) (x15 : FVec Ideal S16x16 .f32) (x16 : FVec Ideal S16 .f32) (q : Fin 4) :
    val_main_v107 (F := Ideal) x0 x1 x2 x3 x4 x5 x6 x7 x8 x9 x10 x11 x12 x13 x14 x15 x16 (ix4 0 q 0 0) = Spec.mean
      (Ideal.ofBits .f32 0x46000000#32) (Spec.members 4 rfl (fun o n => val_main_v101 (F := Ideal) x0 x1 x2 x3 x4 x5 x6 x7 x8
      x9 x10 x11 x12 x13 x14 x15 x16 (ix3 0 n o)) q) := by
  pointwise [val_main_v107, val_main_v106, val_main_cst_13, val_main_v105, val_main_v104, val_main_cst_12]
  simp only [grp16]
  rfl

/-- The variance of a group. -/
theorem var16 (x0 : FVec Ideal S1x2048x3 .f32) (x1 : FVec Ideal S1x2048x3x3 .f32) (x2 : FVec Ideal S1x2048x16 .f32) (x3 :
    FVec Ideal S8x16 .f32) (x4 : FVec Ideal S8 .f32) (x5 : FVec Ideal S8x8 .f32) (x6 x7 x8 : FVec Ideal S8 .f32) (x9 : FVec
    Ideal S8x3 .f32) (x10 : FVec Ideal S8 .f32) (x11 : FVec Ideal S8x8 .f32) (x12 : FVec Ideal S8 .f32) (x13 : FVec Ideal
    S16x8 .f32) (x14 : FVec Ideal S16 .f32) (x15 : FVec Ideal S16x16 .f32) (x16 : FVec Ideal S16 .f32) (q : Fin 4) :
    val_main_v108 (F := Ideal) x0 x1 x2 x3 x4 x5 x6 x7 x8 x9 x10 x11 x12 x13 x14 x15 x16 (ix4 0 q 0 0) = Spec.var
      (Ideal.ofBits .f32 0x46000000#32) (Spec.members 4 rfl (fun o n => val_main_v101 (F := Ideal) x0 x1 x2 x3 x4 x5 x6 x7 x8
      x9 x10 x11 x12 x13 x14 x15 x16 (ix3 0 n o)) q) := by
  pointwise [val_main_v108, val_main_call7_call0_v1, val_main_call7_call0_v0, val_main_call7_cst_4, val_main_call7_v13,
    val_main_call7_cst_3, val_main_call7_v12, val_main_call7_v11, val_main_call7_v10, val_main_call7_v9,
    val_main_call7_cst_2, val_main_call7_v8, val_main_call7_cst_1, val_main_call7_v7, val_main_call7_v6, val_main_call7_v5,
    val_main_call7_v4, val_main_call7_v3, val_main_call7_v2, val_main_call7_cst_0, val_main_call7_v1, val_main_call7_v0,
    val_main_call7_cst, val_main_c_14]
  simp only [grp16, less_none, if_pos positive16]
  rfl

/-- The channels normalised. -/
theorem norm16 (x0 : FVec Ideal S1x2048x3 .f32) (x1 : FVec Ideal S1x2048x3x3 .f32) (x2 : FVec Ideal S1x2048x16 .f32) (x3 :
    FVec Ideal S8x16 .f32) (x4 : FVec Ideal S8 .f32) (x5 : FVec Ideal S8x8 .f32) (x6 x7 x8 : FVec Ideal S8 .f32) (x9 : FVec
    Ideal S8x3 .f32) (x10 : FVec Ideal S8 .f32) (x11 : FVec Ideal S8x8 .f32) (x12 : FVec Ideal S8 .f32) (x13 : FVec Ideal
    S16x8 .f32) (x14 : FVec Ideal S16 .f32) (x15 : FVec Ideal S16x16 .f32) (x16 x17 x18 : FVec Ideal S16 .f32) (o : Fin 16)
    (n : Fin 2048) :
    val_main_v123 (F := Ideal) x0 x1 x2 x3 x4 x5 x6 x7 x8 x9 x10 x11 x12 x13 x14 x15 x16 x17 x18 (ix3 0 n o) = Spec.gnorm16
      (fun o n => val_main_v101 (F := Ideal) x0 x1 x2 x3 x4 x5 x6 x7 x8 x9 x10 x11 x12 x13 x14 x15 x16 (ix3 0 n o)) (fun o =>
      x17 (ix1 o)) (fun o => x18 (ix1 o)) o n := by
  pointwise [val_main_v123, val_main_v122, val_main_v121, val_main_v120, val_main_v119, val_main_v118, val_main_v117,
    val_main_v116, val_main_v115, val_main_v114, val_main_v113, val_main_v112, val_main_v111, val_main_cst_15, val_main_v110,
    val_main_v109]
  rw [grp16, mean16, var16]
  rfl

end Cert.ReferenceIdeal.Hand

end
-- ==== Proof.RefPair.lean ====
module

public import proofs.«01_k».proof.Proof.Gen.ReferenceIdeal.Read
public import proofs.«01_k».proof.Proof.Spec
public import Idealize.ShloMosaic.Lib.Pointwise

/-! The reference's convolution over pairs of points at an index, over the extended reals. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe

/-- The coordinates scaled. -/
theorem pts (x0 : FVec Ideal S1x2048x3 .f32) (n : Fin 2048) (k : Fin 3) :
    val_main_v37 (F := Ideal) x0 (ix3 0 n k) = x0 (ix3 0 n k) * Spec.rsqrt2 := by
  pointwise [val_main_v37, val_main_v36, val_main_v35, val_main_cst_5, val_main_v34, val_main_cst_4]
  have h : Ideal.ofBits .f32 0x40000000#32 = ((2 : ℝ) : EReal) := by
    simp [Ideal.ofBits, Ideal.ieee, -EReal.coe_mul]; norm_num
  rw [h, Ideal.sqrt_coe, if_neg (by norm_num), Ideal.div_coe (Real.sqrt_ne_zero'.mpr two_pos), one_div]

/-- The difference of two points. -/
theorem dif (x0 : FVec Ideal S1x2048x3 .f32) (i j : Fin 2048) (k : Fin 3) :
    val_main_v49 (F := Ideal) x0 (ix4 0 i j k) = Spec.diff (fun k n => x0 (ix3 0 n k) * Spec.rsqrt2) i j k := by
  pointwise [val_main_v49, val_main_v48, val_main_v47, val_main_v39, val_main_v38]
  rw [pts, pts]
  rfl

/-- The weight of a point in the window about another. -/
theorem win (x0 : FVec Ideal S1x2048x3 .f32) (x1 : FVec Ideal S1x2048x3x3 .f32) (i j : Fin 2048) :
    val_main_v61 (F := Ideal) x0 x1 (ix3 0 i j) = Spec.window (fun k n => x0 (ix3 0 n k) * Spec.rsqrt2) (fun k n => x1 (ix4 0
      n ⟨k.val / 3, by omega⟩ ⟨k.val % 3, by omega⟩)) i j := by
  pointwise [val_main_v61, val_main_v60, val_main_v59, val_main_v58, val_main_v57, val_main_v56, val_main_cst_8,
    val_main_v55, val_main_cst_7, val_main_v54, val_main_v53, val_main_v52, val_main_v51, val_main_cst_6, val_main_v50,
    val_main_v45, val_main_v44, val_main_v43, val_main_v42, val_main_v41, val_main_v40]
  simp only [dif, Fin.sum_univ_three, ← mul_assoc]
  rfl

/-- The coordinates of a point in the frame of another. -/
theorem local_ (x0 : FVec Ideal S1x2048x3 .f32) (x1 : FVec Ideal S1x2048x3x3 .f32) (i j : Fin 2048) (k : Fin 3) :
    val_main_v71 (F := Ideal) x0 x1 (ix4 0 i j k) = Spec.loc (fun k n => x0 (ix3 0 n k) * Spec.rsqrt2) (fun k n => x1 (ix4 0
      n ⟨k.val / 3, by omega⟩ ⟨k.val % 3, by omega⟩)) i j k := by
  pointwise [val_main_v71, val_main_v70, val_main_v69, val_main_v68, val_main_v67, val_main_v66, val_main_v65, val_main_v64,
    val_main_v63, val_main_v62, val_main_v42, val_main_v39, val_main_v38]
  simp only [pts, Fin.sum_univ_three]
  fin_cases k <;> rfl

/-- The filter's first layer. -/
theorem filter1 (x0 : FVec Ideal S1x2048x3 .f32) (x1 : FVec Ideal S1x2048x3x3 .f32) (x9 : FVec Ideal S8x3 .f32) (x10 : FVec
    Ideal S8 .f32) (i j : Fin 2048) (o : Fin 8) :
    val_main_v77 (F := Ideal) x0 x1 x9 x10 (ix4 0 i j o) = Spec.hid (fun o k => x9 (ix2 o k)) (fun o => x10 (ix1 o))
      (Spec.loc (fun k n => x0 (ix3 0 n k) * Spec.rsqrt2) (fun k n => x1 (ix4 0 n ⟨k.val / 3, by omega⟩ ⟨k.val % 3, by
      omega⟩)) i j) o := by
  pointwise [val_main_v77, val_main_call3_v0, val_main_call3_cst, val_main_v76, val_main_v75, val_main_v74, val_main_v73,
    val_main_v72]
  simp only [local_, mul_comm (G := EReal) _ (x9 _)]
  rfl

/-- The filter's second layer. -/
theorem filter2 (x0 : FVec Ideal S1x2048x3 .f32) (x1 : FVec Ideal S1x2048x3x3 .f32) (x9 : FVec Ideal S8x3 .f32) (x10 : FVec
    Ideal S8 .f32) (x11 : FVec Ideal S8x8 .f32) (x12 : FVec Ideal S8 .f32) (i j : Fin 2048) (o : Fin 8) :
    val_main_v83 (F := Ideal) x0 x1 x9 x10 x11 x12 (ix4 0 i j o) = Spec.hid (fun o k => x11 (ix2 o k)) (fun o => x12 (ix1 o))
      (Spec.hid (fun o k => x9 (ix2 o k)) (fun o => x10 (ix1 o)) (Spec.loc (fun k n => x0 (ix3 0 n k) * Spec.rsqrt2) (fun k n
      => x1 (ix4 0 n ⟨k.val / 3, by omega⟩ ⟨k.val % 3, by omega⟩)) i j)) o := by
  pointwise [val_main_v83, val_main_call4_v0, val_main_call4_cst, val_main_v82, val_main_v81, val_main_v80, val_main_v79,
    val_main_v78]
  simp only [filter1, mul_comm (G := EReal) _ (x11 _)]
  rfl

/-- The convolution. -/
theorem conv (x0 : FVec Ideal S1x2048x3 .f32) (x1 : FVec Ideal S1x2048x3x3 .f32) (x2 : FVec Ideal S1x2048x16 .f32) (x3 : FVec
    Ideal S8x16 .f32) (x4 : FVec Ideal S8 .f32) (x5 : FVec Ideal S8x8 .f32) (x6 x7 x8 : FVec Ideal S8 .f32) (x9 : FVec Ideal
    S8x3 .f32) (x10 : FVec Ideal S8 .f32) (x11 : FVec Ideal S8x8 .f32) (x12 : FVec Ideal S8 .f32) (i : Fin 2048) (o : Fin 8)
    :
    val_main_v89 (F := Ideal) x0 x1 x2 x3 x4 x5 x6 x7 x8 x9 x10 x11 x12 (ix3 0 i o) = Spec.conv (fun k n => x0 (ix3 0 n k) *
      Spec.rsqrt2) (fun k n => x1 (ix4 0 n ⟨k.val / 3, by omega⟩ ⟨k.val % 3, by omega⟩)) (fun o k => x9 (ix2 o k)) (fun o =>
      x10 (ix1 o)) (fun o k => x11 (ix2 o k)) (fun o => x12 (ix1 o)) (fun o n => val_main_v33 (F := Ideal) x2 x3 x4 x5 x6 x7
      x8 (ix3 0 n o)) o i := by
  pointwise [val_main_v89, val_main_cst_9, val_main_v88, val_main_v87, val_main_v86, val_main_v85, val_main_v84,
    val_main_v46]
  simp only [filter2, win]
  rfl

end Cert.ReferenceIdeal.Hand

end
-- ==== Proof.RefResult.lean ====
module

public import proofs.«01_k».proof.Proof.RefNet
public import proofs.«01_k».proof.Proof.RefNorm
public import proofs.«01_k».proof.Proof.RefPair

/-! The reference's result in terms of the nineteen argument arrays. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe

/-- The reference's result at a point and a channel. -/
theorem result_read (x0 : FVec Ideal S1x2048x3 .f32) (x1 : FVec Ideal S1x2048x3x3 .f32) (x2 : FVec Ideal S1x2048x16 .f32) (x3
    : FVec Ideal S8x16 .f32) (x4 : FVec Ideal S8 .f32) (x5 : FVec Ideal S8x8 .f32) (x6 x7 x8 : FVec Ideal S8 .f32) (x9 : FVec
    Ideal S8x3 .f32) (x10 : FVec Ideal S8 .f32) (x11 : FVec Ideal S8x8 .f32) (x12 : FVec Ideal S8 .f32) (x13 : FVec Ideal
    S16x8 .f32) (x14 : FVec Ideal S16 .f32) (x15 : FVec Ideal S16x16 .f32) (x16 x17 x18 : FVec Ideal S16 .f32) (n : Fin 2048)
    (o : Fin 16) :
    val_main_v123 (F := Ideal) x0 x1 x2 x3 x4 x5 x6 x7 x8 x9 x10 x11 x12 x13 x14 x15 x16 x17 x18 (ix3 0 n o) = Spec.result x0
      x1 x2 x3 x4 x5 x6 x7 x8 x9 x10 x11 x12 x13 x14 x15 x16 x17 x18 (ix3 0 n o) := by
  rw [norm16]
  simp only [out2, out1, conv, norm8, in2, in1]
  rfl

/-- The reference's result is the specification's. -/
theorem result_eq (x0 : FVec Ideal S1x2048x3 .f32) (x1 : FVec Ideal S1x2048x3x3 .f32) (x2 : FVec Ideal S1x2048x16 .f32) (x3 :
    FVec Ideal S8x16 .f32) (x4 : FVec Ideal S8 .f32) (x5 : FVec Ideal S8x8 .f32) (x6 x7 x8 : FVec Ideal S8 .f32) (x9 : FVec
    Ideal S8x3 .f32) (x10 : FVec Ideal S8 .f32) (x11 : FVec Ideal S8x8 .f32) (x12 : FVec Ideal S8 .f32) (x13 : FVec Ideal
    S16x8 .f32) (x14 : FVec Ideal S16 .f32) (x15 : FVec Ideal S16x16 .f32) (x16 x17 x18 : FVec Ideal S16 .f32) :
    val_main_v123 (F := Ideal) x0 x1 x2 x3 x4 x5 x6 x7 x8 x9 x10 x11 x12 x13 x14 x15 x16 x17 x18 = Spec.result x0 x1 x2 x3 x4
      x5 x6 x7 x8 x9 x10 x11 x12 x13 x14 x15 x16 x17 x18 := by
  funext y
  have e : y = ix3 0 (y 1) (y 2) := by
    funext a; fin_cases a
    · exact Subsingleton.elim (α := Fin 1) _ _
    · rfl
    · rfl
  rw [e]
  exact result_read x0 x1 x2 x3 x4 x5 x6 x7 x8 x9 x10 x11 x12 x13 x14 x15 x16 x17 x18 (y 1) (y 2)

end Cert.ReferenceIdeal.Hand

end
-- ==== Proof.Algebraic.lean ====
module

public import proofs.«01_k».proof.Defs
public import proofs.«01_k».proof.Proof.KernelIdeal.Result
public import proofs.«01_k».proof.Proof.RefResult

/-! The kernel and the reference end with the same result: each ends with the specification's result of its arguments. -/

@[expose] public section

noncomputable section

namespace Cert.Proof

open Idealize.ShloMosaic Idealize.SL.Sem

/-- From memories that agree on the arguments, the idealized kernel and the idealized reference end with equal results. -/
theorem algebraic : Cert.algebraic_KernelIdeal_ReferenceIdeal := fun m ρ m' ρ' _ hag =>
  ⟨fun c => Cert.KernelIdeal.Hand.G m c, Cert.KernelIdeal.Hand.run m ρ,
    (θ_run Cert.ReferenceIdeal.defs _ _).mono
      (fun _ h c => ⟨(h c).1.trans ((Cert.ReferenceIdeal.Read.val_main_v123_eq _).trans
        ((Cert.ReferenceIdeal.Hand.result_eq _ _ _ _ _ _ _ _ _ _ _ _ _ _ _ _ _ _ _).trans (by
          obtain ⟨h0, h1, h2, h3, h4, h5, h6, h7, h8, h9, h10, h11, h12, h13, h14, h15, h16, h17, h18⟩ := hag c
          simp only [StableHlo.launchContents_devRef, h0, h1, h2, h3, h4, h5, h6, h7, h8, h9, h10, h11, h12, h13, h14, h15, h16, h17, h18]))), (h c).2⟩)
      (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
